-- ==== Defs.lean ====
def Pre_Kernel [hPre_routing_tables : Cert.Pre_routing_tables.Facts] (m : (ℓ : Loc Cert.Kernel.nD Cert.Kernel.τ Cert.Kernel.sig) → Buf (Elt Bits) ℓ) : Prop :=
  ∀ c : Dev Cert.Kernel.nD,
    (Cert.Pre_routing_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_routing_tables : Cert.Pre_routing_tables.Facts] (m : (ℓ : Loc Cert.KernelIdeal.nD Cert.KernelIdeal.τ Cert.KernelIdeal.sig) → Buf (Elt Ideal) ℓ) : Prop :=
  ∀ c : Dev Cert.KernelIdeal.nD,
    (Cert.Pre_routing_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_tables [hPre_routing_tables : Cert.Pre_routing_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_arguments [hPre_finite_arguments : Cert.Pre_finite_arguments.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_arguments.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_SoftmaxIdeal (m : (ℓ : Loc Cert.SoftmaxIdeal.nD Cert.SoftmaxIdeal.τ Cert.SoftmaxIdeal.sig) → Buf (Elt Ideal) ℓ) : Prop :=
  True

def Pre_SoftmaxIdeal_finite_arguments [hPre_finite_arguments : Cert.Pre_finite_arguments.Facts] (m : (ℓ : Loc Cert.SoftmaxIdeal.nD Cert.SoftmaxIdeal.τ Cert.SoftmaxIdeal.sig) → Buf (Elt Ideal) ℓ) : Prop :=
  ∀ c : Dev Cert.SoftmaxIdeal.nD,
    (Cert.Pre_finite_arguments.fn (F := Ideal) (m ((c.tc : Thread Cert.SoftmaxIdeal.nD Cert.SoftmaxIdeal.τ).loc Cert.SoftmaxIdeal.main_arg0)) (m ((c.tc : Thread Cert.SoftmaxIdeal.nD Cert.SoftmaxIdeal.τ).loc Cert.SoftmaxIdeal.main_arg1)) (m ((c.tc : Thread Cert.SoftmaxIdeal.nD Cert.SoftmaxIdeal.τ).loc Cert.SoftmaxIdeal.main_arg2)) (m ((c.tc : Thread Cert.SoftmaxIdeal.nD Cert.SoftmaxIdeal.τ).loc Cert.SoftmaxIdeal.main_arg3))) = (fun _ => 1#1)

def Pre_SoftmaxIdeal_finite_scores [hPre_finite_scores : Cert.Pre_finite_scores.Facts] (m : (ℓ : Loc Cert.SoftmaxIdeal.nD Cert.SoftmaxIdeal.τ Cert.SoftmaxIdeal.sig) → Buf (Elt Ideal) ℓ) : Prop :=
  ∀ c : Dev Cert.SoftmaxIdeal.nD,
    (Cert.Pre_finite_scores.fn (F := Ideal) (m ((c.tc : Thread Cert.SoftmaxIdeal.nD Cert.SoftmaxIdeal.τ).loc Cert.SoftmaxIdeal.main_arg0)) (m ((c.tc : Thread Cert.SoftmaxIdeal.nD Cert.SoftmaxIdeal.τ).loc Cert.SoftmaxIdeal.main_arg1)) (m ((c.tc : Thread Cert.SoftmaxIdeal.nD Cert.SoftmaxIdeal.τ).loc Cert.SoftmaxIdeal.main_arg2)) (m ((c.tc : Thread Cert.SoftmaxIdeal.nD Cert.SoftmaxIdeal.τ).loc Cert.SoftmaxIdeal.main_arg3))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ConditionedIdeal (m : (ℓ : Loc Cert.ConditionedIdeal.nD Cert.ConditionedIdeal.τ Cert.ConditionedIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundedIdeal (m : (ℓ : Loc Cert.BoundedIdeal.nD Cert.BoundedIdeal.τ Cert.BoundedIdeal.sig) → Buf (Elt Ideal) ℓ) : Prop :=
  True

def Pre_Online (m : (ℓ : Loc Cert.Online.nD Cert.Online.τ Cert.Online.sig) → Buf (Elt Bits) ℓ) : Prop :=
  True

def Pre_OnlineIdeal (m : (ℓ : Loc Cert.OnlineIdeal.nD Cert.OnlineIdeal.τ Cert.OnlineIdeal.sig) → Buf (Elt Ideal) ℓ) : Prop :=
  True

def Pre_OnlineIdeal_finite_scores [hPre_finite_scores : Cert.Pre_finite_scores.Facts] (m : (ℓ : Loc Cert.OnlineIdeal.nD Cert.OnlineIdeal.τ Cert.OnlineIdeal.sig) → Buf (Elt Ideal) ℓ) : Prop :=
  ∀ c : Dev Cert.OnlineIdeal.nD,
    (Cert.Pre_finite_scores.fn (F := Ideal) (m ((c.tc : Thread Cert.OnlineIdeal.nD Cert.OnlineIdeal.τ).loc Cert.OnlineIdeal.main_arg0)) (m ((c.tc : Thread Cert.OnlineIdeal.nD Cert.OnlineIdeal.τ).loc Cert.OnlineIdeal.main_arg1)) (m ((c.tc : Thread Cert.OnlineIdeal.nD Cert.OnlineIdeal.τ).loc Cert.OnlineIdeal.main_arg2)) (m ((c.tc : Thread Cert.OnlineIdeal.nD Cert.OnlineIdeal.τ).loc Cert.OnlineIdeal.main_arg3))) = (fun _ => 1#1)

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def quiescent_Kernel [hKernel : Cert.Kernel.Facts] [hPre_routing_tables : Cert.Pre_routing_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routing_tables : Cert.Pre_routing_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routing_tables [hReferenceIdeal : Cert.ReferenceIdeal.Facts] [hPre_routing_tables : Cert.Pre_routing_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_arguments [hAttentionIdeal : Cert.AttentionIdeal.Facts] [hPre_finite_arguments : Cert.Pre_finite_arguments.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_arguments m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2)
      ∧ r.2.mem ((c.tc : Thread Cert.SoftmaxIdeal.nD Cert.SoftmaxIdeal.τ).loc Cert.SoftmaxIdeal.main_arg3) = m ((c.tc : Thread Cert.SoftmaxIdeal.nD Cert.SoftmaxIdeal.τ).loc Cert.SoftmaxIdeal.main_arg3))
      ∧ r.2.sem = fun _ => 0)

def quiescent_SoftmaxIdeal_pre_finite_arguments [hSoftmaxIdeal : Cert.SoftmaxIdeal.Facts] [hPre_finite_arguments : Cert.Pre_finite_arguments.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal_finite_arguments m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2)
      ∧ r.2.mem ((c.tc : Thread Cert.SoftmaxIdeal.nD Cert.SoftmaxIdeal.τ).loc Cert.SoftmaxIdeal.main_arg3) = m ((c.tc : Thread Cert.SoftmaxIdeal.nD Cert.SoftmaxIdeal.τ).loc Cert.SoftmaxIdeal.main_arg3))
      ∧ r.2.sem = fun _ => 0)

def quiescent_SoftmaxIdeal_pre_finite_scores [hSoftmaxIdeal : Cert.SoftmaxIdeal.Facts] [hPre_finite_scores : Cert.Pre_finite_scores.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal_finite_scores m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2)
      ∧ r.2.mem ((c.tc : Thread Cert.SoftmaxIdeal.nD Cert.SoftmaxIdeal.τ).loc Cert.SoftmaxIdeal.main_arg3) = m ((c.tc : Thread Cert.SoftmaxIdeal.nD Cert.SoftmaxIdeal.τ).loc Cert.SoftmaxIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ConditionedIdeal [hConditionedIdeal : Cert.ConditionedIdeal.Facts] : Prop :=
  ∀ (m : (ℓ : Loc Cert.ConditionedIdeal.nD Cert.ConditionedIdeal.τ Cert.ConditionedIdeal.sig) → Buf (Elt Ideal) ℓ) (g : Dev Cert.ConditionedIdeal.nD → PrngReg), Pre_ConditionedIdeal m →
    θ_run (Cert.ConditionedIdeal.defs (F := Ideal)) (onTc (τ := Cert.ConditionedIdeal.τ) (Cert.ConditionedIdeal.main (F := Ideal))) ⟨m, fun _ => 0, g⟩ (fun r => (∀ c : Dev Cert.ConditionedIdeal.nD,
      r.2.mem ((c.tc : Thread Cert.ConditionedIdeal.nD Cert.ConditionedIdeal.τ).loc Cert.ConditionedIdeal.main_arg0) = m ((c.tc : Thread Cert.ConditionedIdeal.nD Cert.ConditionedIdeal.τ).loc Cert.ConditionedIdeal.main_arg0)
      ∧ r.2.mem ((c.tc : Thread Cert.ConditionedIdeal.nD Cert.ConditionedIdeal.τ).loc Cert.ConditionedIdeal.main_arg1) = m ((c.tc : Thread Cert.ConditionedIdeal.nD Cert.ConditionedIdeal.τ).loc Cert.ConditionedIdeal.main_arg1)
      ∧ r.2.mem ((c.tc : Thread Cert.ConditionedIdeal.nD Cert.ConditionedIdeal.τ).loc Cert.ConditionedIdeal.main_arg2) = m ((c.tc : Thread Cert.ConditionedIdeal.nD Cert.ConditionedIdeal.τ).loc Cert.ConditionedIdeal.main_arg2))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundedIdeal [hBoundedIdeal : Cert.BoundedIdeal.Facts] : Prop :=
  ∀ (m : (ℓ : Loc Cert.BoundedIdeal.nD Cert.BoundedIdeal.τ Cert.BoundedIdeal.sig) → Buf (Elt Ideal) ℓ) (g : Dev Cert.BoundedIdeal.nD → PrngReg), Pre_BoundedIdeal m →
    θ_run (Cert.BoundedIdeal.defs (F := Ideal)) (onTc (τ := Cert.BoundedIdeal.τ) (Cert.BoundedIdeal.main (F := Ideal))) ⟨m, fun _ => 0, g⟩ (fun r => (∀ c : Dev Cert.BoundedIdeal.nD,
      r.2.mem ((c.tc : Thread Cert.BoundedIdeal.nD Cert.BoundedIdeal.τ).loc Cert.BoundedIdeal.main_arg0) = m ((c.tc : Thread Cert.BoundedIdeal.nD Cert.BoundedIdeal.τ).loc Cert.BoundedIdeal.main_arg0))
      ∧ r.2.sem = fun _ => 0)

def quiescent_Online [hOnline : Cert.Online.Facts] : Prop :=
  ∀ (m : (ℓ : Loc Cert.Online.nD Cert.Online.τ Cert.Online.sig) → Buf (Elt Bits) ℓ) (g : Dev Cert.Online.nD → PrngReg), Pre_Online m →
    θ_run (Cert.Online.defs (F := Bits)) (onTc (τ := Cert.Online.τ) (Cert.Online.main (F := Bits))) ⟨m, fun _ => 0, g⟩ (fun r => (∀ c : Dev Cert.Online.nD,
      r.2.mem ((c.tc : Thread Cert.Online.nD Cert.Online.τ).loc Cert.Online.main_arg0) = m ((c.tc : Thread Cert.Online.nD Cert.Online.τ).loc Cert.Online.main_arg0)
      ∧ r.2.mem ((c.tc : Thread Cert.Online.nD Cert.Online.τ).loc Cert.Online.main_arg1) = m ((c.tc : Thread Cert.Online.nD Cert.Online.τ).loc Cert.Online.main_arg1)
      ∧ r.2.mem ((c.tc : Thread Cert.Online.nD Cert.Online.τ).loc Cert.Online.main_arg2) = m ((c.tc : Thread Cert.Online.nD Cert.Online.τ).loc Cert.Online.main_arg2)
      ∧ r.2.mem ((c.tc : Thread Cert.Online.nD Cert.Online.τ).loc Cert.Online.main_arg3) = m ((c.tc : Thread Cert.Online.nD Cert.Online.τ).loc Cert.Online.main_arg3))
      ∧ r.2.sem = fun _ => 0)

def quiescent_OnlineIdeal [hOnlineIdeal : Cert.OnlineIdeal.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3))
      ∧ r.2.sem = fun _ => 0)

def quiescent_OnlineIdeal_pre_finite_scores [hOnlineIdeal : Cert.OnlineIdeal.Facts] [hPre_finite_scores : Cert.Pre_finite_scores.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal_finite_scores m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
      ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10)
      ∧ r.2.mem ((c.tc : Thread Cert.MixedIdeal.nD Cert.MixedIdeal.τ).loc Cert.MixedIdeal.main_arg11) = m ((c.tc : Thread Cert.MixedIdeal.nD Cert.MixedIdeal.τ).loc Cert.MixedIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routing_tables : Cert.Pre_routing_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attention_AttentionIdeal : Prop :=
  True

def algebraic_AttentionIdeal_SoftmaxIdeal_pre_finite_arguments [hAttentionIdeal : Cert.AttentionIdeal.Facts] [hSoftmaxIdeal : Cert.SoftmaxIdeal.Facts] [hPre_finite_arguments : Cert.Pre_finite_arguments.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.SoftmaxIdeal.nD Cert.SoftmaxIdeal.τ Cert.SoftmaxIdeal.sig) → Buf (Elt Ideal) ℓ) (g' : Dev Cert.SoftmaxIdeal.nD → PrngReg), Pre_AttentionIdeal_finite_arguments m →
    (∀ c : Dev Cert.AttentionIdeal.nD,
      m' ((c.tc : Thread Cert.SoftmaxIdeal.nD Cert.SoftmaxIdeal.τ).loc Cert.SoftmaxIdeal.main_arg0) = m ((c.tc : Thread Cert.AttentionIdeal.nD Cert.AttentionIdeal.τ).loc Cert.AttentionIdeal.main_arg0)
      ∧ m' ((c.tc : Thread Cert.SoftmaxIdeal.nD Cert.SoftmaxIdeal.τ).loc Cert.SoftmaxIdeal.main_arg1) = m ((c.tc : Thread Cert.AttentionIdeal.nD Cert.AttentionIdeal.τ).loc Cert.AttentionIdeal.main_arg1)
      ∧ m' ((c.tc : Thread Cert.SoftmaxIdeal.nD Cert.SoftmaxIdeal.τ).loc Cert.SoftmaxIdeal.main_arg2) = m ((c.tc : Thread Cert.AttentionIdeal.nD Cert.AttentionIdeal.τ).loc Cert.AttentionIdeal.main_arg2)
      ∧ m' ((c.tc : Thread Cert.SoftmaxIdeal.nD Cert.SoftmaxIdeal.τ).loc Cert.SoftmaxIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.SoftmaxIdeal.defs (F := Ideal)) (onTc (τ := Cert.SoftmaxIdeal.τ) (Cert.SoftmaxIdeal.main (F := Ideal))) ⟨m', fun _ => 0, g'⟩ (fun r => ∀ c : Dev Cert.SoftmaxIdeal.nD,
          r.2.mem ((c.tc : Thread Cert.SoftmaxIdeal.nD Cert.SoftmaxIdeal.τ).loc Cert.SoftmaxIdeal.main_v25) = v0 c
          ∧ r.2.mem ((c.tc : Thread Cert.SoftmaxIdeal.nD Cert.SoftmaxIdeal.τ).loc Cert.SoftmaxIdeal.main_arg0) = m' ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m' ((c.tc : Thread Cert.SoftmaxIdeal.nD Cert.SoftmaxIdeal.τ).loc Cert.SoftmaxIdeal.main_arg1)
          ∧ r.2.mem ((c.tc : Thread Cert.SoftmaxIdeal.nD Cert.SoftmaxIdeal.τ).loc Cert.SoftmaxIdeal.main_arg2) = m' ((c.tc : Thread Cert.SoftmaxIdeal.nD Cert.SoftmaxIdeal.τ).loc Cert.SoftmaxIdeal.main_arg2)
          ∧ r.2.mem ((c.tc : Thread Cert.SoftmaxIdeal.nD Cert.SoftmaxIdeal.τ).loc Cert.SoftmaxIdeal.main_arg3) = m' ((c.tc : Thread Cert.SoftmaxIdeal.nD Cert.SoftmaxIdeal.τ).loc Cert.SoftmaxIdeal.main_arg3))

def preserves_Projection_ProjectionIdeal : Prop :=
  True

def algebraic_ProjectionIdeal_ProjectedIdeal [hProjectionIdeal : Cert.ProjectionIdeal.Facts] [hProjectedIdeal : Cert.ProjectedIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectionIdeal m →
    (∀ c : Dev Cert.ProjectionIdeal.nD,
      m' ((c.tc : Thread Cert.ProjectedIdeal.nD Cert.ProjectedIdeal.τ).loc Cert.ProjectedIdeal.main_arg0) = m ((c.tc : Thread Cert.ProjectionIdeal.nD Cert.ProjectionIdeal.τ).loc Cert.ProjectionIdeal.main_arg0)
      ∧ m' ((c.tc : Thread Cert.ProjectedIdeal.nD Cert.ProjectedIdeal.τ).loc Cert.ProjectedIdeal.main_arg1) = m ((c.tc : Thread Cert.ProjectionIdeal.nD Cert.ProjectionIdeal.τ).loc Cert.ProjectionIdeal.main_arg1)
      ∧ m' ((c.tc : Thread Cert.ProjectedIdeal.nD Cert.ProjectedIdeal.τ).loc Cert.ProjectedIdeal.main_arg2) = m ((c.tc : Thread Cert.ProjectionIdeal.nD Cert.ProjectionIdeal.τ).loc Cert.ProjectionIdeal.main_arg2)
      ∧ m' ((c.tc : Thread Cert.ProjectedIdeal.nD Cert.ProjectedIdeal.τ).loc Cert.ProjectedIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v31) = v0 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3))

def preserves_Modulation_ModulationIdeal : Prop :=
  True

def algebraic_ModulationIdeal_ConditionedIdeal [hModulationIdeal : Cert.ModulationIdeal.Facts] [hConditionedIdeal : Cert.ConditionedIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ConditionedIdeal.nD Cert.ConditionedIdeal.τ Cert.ConditionedIdeal.sig) → Buf (Elt Ideal) ℓ) (g' : Dev Cert.ConditionedIdeal.nD → PrngReg), Pre_ModulationIdeal m →
    (∀ c : Dev Cert.ModulationIdeal.nD,
      m' ((c.tc : Thread Cert.ConditionedIdeal.nD Cert.ConditionedIdeal.τ).loc Cert.ConditionedIdeal.main_arg0) = m ((c.tc : Thread Cert.ModulationIdeal.nD Cert.ModulationIdeal.τ).loc Cert.ModulationIdeal.main_arg0)
      ∧ m' ((c.tc : Thread Cert.ConditionedIdeal.nD Cert.ConditionedIdeal.τ).loc Cert.ConditionedIdeal.main_arg1) = m ((c.tc : Thread Cert.ModulationIdeal.nD Cert.ModulationIdeal.τ).loc Cert.ModulationIdeal.main_arg1)
      ∧ m' ((c.tc : Thread Cert.ConditionedIdeal.nD Cert.ConditionedIdeal.τ).loc Cert.ConditionedIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ConditionedIdeal.defs (F := Ideal)) (onTc (τ := Cert.ConditionedIdeal.τ) (Cert.ConditionedIdeal.main (F := Ideal))) ⟨m', fun _ => 0, g'⟩ (fun r => ∀ c : Dev Cert.ConditionedIdeal.nD,
          r.2.mem ((c.tc : Thread Cert.ConditionedIdeal.nD Cert.ConditionedIdeal.τ).loc Cert.ConditionedIdeal.main_v4) = v0 c
          ∧ r.2.mem ((c.tc : Thread Cert.ConditionedIdeal.nD Cert.ConditionedIdeal.τ).loc Cert.ConditionedIdeal.main_arg0) = m' ((c.tc : Thread Cert.ConditionedIdeal.nD Cert.ConditionedIdeal.τ).loc Cert.ConditionedIdeal.main_arg0)
          ∧ r.2.mem ((c.tc : Thread Cert.ConditionedIdeal.nD Cert.ConditionedIdeal.τ).loc Cert.ConditionedIdeal.main_arg1) = m' ((c.tc : Thread Cert.ConditionedIdeal.nD Cert.ConditionedIdeal.τ).loc Cert.ConditionedIdeal.main_arg1)
          ∧ r.2.mem ((c.tc : Thread Cert.ConditionedIdeal.nD Cert.ConditionedIdeal.τ).loc Cert.ConditionedIdeal.main_arg2) = m' ((c.tc : Thread Cert.ConditionedIdeal.nD Cert.ConditionedIdeal.τ).loc Cert.ConditionedIdeal.main_arg2))

def preserves_Bounds_BoundsIdeal : Prop :=
  True

def algebraic_BoundsIdeal_BoundedIdeal [hBoundsIdeal : Cert.BoundsIdeal.Facts] [hBoundedIdeal : Cert.BoundedIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundedIdeal.nD Cert.BoundedIdeal.τ Cert.BoundedIdeal.sig) → Buf (Elt Ideal) ℓ) (g' : Dev Cert.BoundedIdeal.nD → PrngReg), Pre_BoundsIdeal m →
    (∀ c : Dev Cert.BoundsIdeal.nD,
      m' ((c.tc : Thread Cert.BoundedIdeal.nD Cert.BoundedIdeal.τ).loc Cert.BoundedIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundedIdeal.defs (F := Ideal)) (onTc (τ := Cert.BoundedIdeal.τ) (Cert.BoundedIdeal.main (F := Ideal))) ⟨m', fun _ => 0, g'⟩ (fun r => ∀ c : Dev Cert.BoundedIdeal.nD,
          r.2.mem ((c.tc : Thread Cert.BoundedIdeal.nD Cert.BoundedIdeal.τ).loc Cert.BoundedIdeal.main_v14) = v0 c
          ∧ r.2.mem ((c.tc : Thread Cert.BoundedIdeal.nD Cert.BoundedIdeal.τ).loc Cert.BoundedIdeal.main_arg0) = m' ((c.tc : Thread Cert.BoundedIdeal.nD Cert.BoundedIdeal.τ).loc Cert.BoundedIdeal.main_arg0))

def preserves_Online_OnlineIdeal : Prop :=
  True

def algebraic_OnlineIdeal_SoftmaxIdeal_pre_finite_scores [hOnlineIdeal : Cert.OnlineIdeal.Facts] [hSoftmaxIdeal : Cert.SoftmaxIdeal.Facts] [hPre_finite_scores : Cert.Pre_finite_scores.Facts] : Prop :=
  ∀ (m : (ℓ : Loc Cert.OnlineIdeal.nD Cert.OnlineIdeal.τ Cert.OnlineIdeal.sig) → Buf (Elt Ideal) ℓ) (g : Dev Cert.OnlineIdeal.nD → PrngReg)
    (m' : (ℓ : Loc Cert.SoftmaxIdeal.nD Cert.SoftmaxIdeal.τ Cert.SoftmaxIdeal.sig) → Buf (Elt Ideal) ℓ) (g' : Dev Cert.SoftmaxIdeal.nD → PrngReg), Pre_OnlineIdeal_finite_scores m →
    (∀ c : Dev Cert.OnlineIdeal.nD,
      m' ((c.tc : Thread Cert.SoftmaxIdeal.nD Cert.SoftmaxIdeal.τ).loc Cert.SoftmaxIdeal.main_arg0) = m ((c.tc : Thread Cert.OnlineIdeal.nD Cert.OnlineIdeal.τ).loc Cert.OnlineIdeal.main_arg0)
      ∧ m' ((c.tc : Thread Cert.SoftmaxIdeal.nD Cert.SoftmaxIdeal.τ).loc Cert.SoftmaxIdeal.main_arg1) = m ((c.tc : Thread Cert.OnlineIdeal.nD Cert.OnlineIdeal.τ).loc Cert.OnlineIdeal.main_arg1)
      ∧ m' ((c.tc : Thread Cert.SoftmaxIdeal.nD Cert.SoftmaxIdeal.τ).loc Cert.SoftmaxIdeal.main_arg2) = m ((c.tc : Thread Cert.OnlineIdeal.nD Cert.OnlineIdeal.τ).loc Cert.OnlineIdeal.main_arg2)
      ∧ m' ((c.tc : Thread Cert.SoftmaxIdeal.nD Cert.SoftmaxIdeal.τ).loc Cert.SoftmaxIdeal.main_arg3) = m ((c.tc : Thread Cert.OnlineIdeal.nD Cert.OnlineIdeal.τ).loc Cert.OnlineIdeal.main_arg3)) →
    ∃ (v0 : (c : Dev Cert.OnlineIdeal.nD) → Buf (Elt Ideal) ((c.tc : Thread Cert.OnlineIdeal.nD Cert.OnlineIdeal.τ).loc Cert.OnlineIdeal.main_v0)),
      θ_run (Cert.OnlineIdeal.defs (F := Ideal)) (onTc (τ := Cert.OnlineIdeal.τ) (Cert.OnlineIdeal.main (F := Ideal))) ⟨m, fun _ => 0, g⟩ (fun r => ∀ c : Dev Cert.OnlineIdeal.nD,
          r.2.mem ((c.tc : Thread Cert.OnlineIdeal.nD Cert.OnlineIdeal.τ).loc Cert.OnlineIdeal.main_v0) = v0 c
          ∧ r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
          ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
          ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
          ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3))
      ∧ θ_run (Cert.SoftmaxIdeal.defs (F := Ideal)) (onTc (τ := Cert.SoftmaxIdeal.τ) (Cert.SoftmaxIdeal.main (F := Ideal))) ⟨m', fun _ => 0, g'⟩ (fun r => ∀ c : Dev Cert.SoftmaxIdeal.nD,
          r.2.mem ((c.tc : Thread Cert.SoftmaxIdeal.nD Cert.SoftmaxIdeal.τ).loc Cert.SoftmaxIdeal.main_v25) = v0 c
          ∧ r.2.mem ((c.tc : Thread Cert.SoftmaxIdeal.nD Cert.SoftmaxIdeal.τ).loc Cert.SoftmaxIdeal.main_arg0) = m' ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m' ((c.tc : Thread Cert.SoftmaxIdeal.nD Cert.SoftmaxIdeal.τ).loc Cert.SoftmaxIdeal.main_arg1)
          ∧ r.2.mem ((c.tc : Thread Cert.SoftmaxIdeal.nD Cert.SoftmaxIdeal.τ).loc Cert.SoftmaxIdeal.main_arg2) = m' ((c.tc : Thread Cert.SoftmaxIdeal.nD Cert.SoftmaxIdeal.τ).loc Cert.SoftmaxIdeal.main_arg2)
          ∧ r.2.mem ((c.tc : Thread Cert.SoftmaxIdeal.nD Cert.SoftmaxIdeal.τ).loc Cert.SoftmaxIdeal.main_arg3) = m' ((c.tc : Thread Cert.SoftmaxIdeal.nD Cert.SoftmaxIdeal.τ).loc Cert.SoftmaxIdeal.main_arg3))

def preserves_Mixing_MixingIdeal : Prop :=
  True

def algebraic_MixingIdeal_MixedIdeal [hMixingIdeal : Cert.MixingIdeal.Facts] [hMixedIdeal : Cert.MixedIdeal.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixedIdeal.nD Cert.MixedIdeal.τ Cert.MixedIdeal.sig) → Buf (Elt Ideal) ℓ) (g' : Dev Cert.MixedIdeal.nD → PrngReg), Pre_MixingIdeal m →
    (∀ c : Dev Cert.MixingIdeal.nD,
      m' ((c.tc : Thread Cert.MixedIdeal.nD Cert.MixedIdeal.τ).loc Cert.MixedIdeal.main_arg0) = m ((c.tc : Thread Cert.MixingIdeal.nD Cert.MixingIdeal.τ).loc Cert.MixingIdeal.main_arg0)
      ∧ m' ((c.tc : Thread Cert.MixedIdeal.nD Cert.MixedIdeal.τ).loc Cert.MixedIdeal.main_arg1) = m ((c.tc : Thread Cert.MixingIdeal.nD Cert.MixingIdeal.τ).loc Cert.MixingIdeal.main_arg1)
      ∧ m' ((c.tc : Thread Cert.MixedIdeal.nD Cert.MixedIdeal.τ).loc Cert.MixedIdeal.main_arg2) = m ((c.tc : Thread Cert.MixingIdeal.nD Cert.MixingIdeal.τ).loc Cert.MixingIdeal.main_arg2)
      ∧ m' ((c.tc : Thread Cert.MixedIdeal.nD Cert.MixedIdeal.τ).loc Cert.MixedIdeal.main_arg3) = m ((c.tc : Thread Cert.MixingIdeal.nD Cert.MixingIdeal.τ).loc Cert.MixingIdeal.main_arg3)
      ∧ m' ((c.tc : Thread Cert.MixedIdeal.nD Cert.MixedIdeal.τ).loc Cert.MixedIdeal.main_arg4) = m ((c.tc : Thread Cert.MixingIdeal.nD Cert.MixingIdeal.τ).loc Cert.MixingIdeal.main_arg4)
      ∧ m' ((c.tc : Thread Cert.MixedIdeal.nD Cert.MixedIdeal.τ).loc Cert.MixedIdeal.main_arg5) = m ((c.tc : Thread Cert.MixingIdeal.nD Cert.MixingIdeal.τ).loc Cert.MixingIdeal.main_arg5)
      ∧ m' ((c.tc : Thread Cert.MixedIdeal.nD Cert.MixedIdeal.τ).loc Cert.MixedIdeal.main_arg6) = m ((c.tc : Thread Cert.MixingIdeal.nD Cert.MixingIdeal.τ).loc Cert.MixingIdeal.main_arg6)
      ∧ m' ((c.tc : Thread Cert.MixedIdeal.nD Cert.MixedIdeal.τ).loc Cert.MixedIdeal.main_arg7) = m ((c.tc : Thread Cert.MixingIdeal.nD Cert.MixingIdeal.τ).loc Cert.MixingIdeal.main_arg7)
      ∧ m' ((c.tc : Thread Cert.MixedIdeal.nD Cert.MixedIdeal.τ).loc Cert.MixedIdeal.main_arg8) = m ((c.tc : Thread Cert.MixingIdeal.nD Cert.MixingIdeal.τ).loc Cert.MixingIdeal.main_arg8)
      ∧ m' ((c.tc : Thread Cert.MixedIdeal.nD Cert.MixedIdeal.τ).loc Cert.MixedIdeal.main_arg9) = m ((c.tc : Thread Cert.MixingIdeal.nD Cert.MixingIdeal.τ).loc Cert.MixingIdeal.main_arg9)
      ∧ m' ((c.tc : Thread Cert.MixedIdeal.nD Cert.MixedIdeal.τ).loc Cert.MixedIdeal.main_arg10) = m ((c.tc : Thread Cert.MixingIdeal.nD Cert.MixingIdeal.τ).loc Cert.MixingIdeal.main_arg10)
      ∧ m' ((c.tc : Thread Cert.MixedIdeal.nD Cert.MixedIdeal.τ).loc Cert.MixedIdeal.main_arg11) = m ((c.tc : Thread Cert.MixingIdeal.nD Cert.MixingIdeal.τ).loc Cert.MixingIdeal.main_arg11)) →
    ∃ (v0 : (c : Dev Cert.MixingIdeal.nD) → Buf (Elt Ideal) ((c.tc : Thread Cert.MixingIdeal.nD Cert.MixingIdeal.τ).loc Cert.MixingIdeal.main_v0_0)) (v1 : (c : Dev Cert.MixingIdeal.nD) → Buf (Elt Ideal) ((c.tc : Thread Cert.MixingIdeal.nD Cert.MixingIdeal.τ).loc Cert.MixingIdeal.main_v0_1)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v0_0) = v0 c
          ∧ r.2.mem ((c.tc : Thread Cert.MixingIdeal.nD Cert.MixingIdeal.τ).loc Cert.MixingIdeal.main_v0_1) = v1 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
          ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
          ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v36) = v0 c
          ∧ r.2.mem ((c.tc : Thread Cert.MixedIdeal.nD Cert.MixedIdeal.τ).loc Cert.MixedIdeal.main_v63) = v1 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m' ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m' ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m' ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m' ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m' ((c.tc : Thread Cert.MixedIdeal.nD Cert.MixedIdeal.τ).loc Cert.MixedIdeal.main_arg9)
          ∧ r.2.mem ((c.tc : Thread Cert.MixedIdeal.nD Cert.MixedIdeal.τ).loc Cert.MixedIdeal.main_arg10) = m' ((c.tc : Thread Cert.MixedIdeal.nD Cert.MixedIdeal.τ).loc Cert.MixedIdeal.main_arg10)
          ∧ r.2.mem ((c.tc : Thread Cert.MixedIdeal.nD Cert.MixedIdeal.τ).loc Cert.MixedIdeal.main_arg11) = m' ((c.tc : Thread Cert.MixedIdeal.nD Cert.MixedIdeal.τ).loc Cert.MixedIdeal.main_arg11))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hSoftmaxIdeal : Cert.SoftmaxIdeal.Facts) (hProjection : Cert.Projection.Facts) (hProjectionIdeal : Cert.ProjectionIdeal.Facts) (hProjectedIdeal : Cert.ProjectedIdeal.Facts) (hModulation : Cert.Modulation.Facts) (hModulationIdeal : Cert.ModulationIdeal.Facts) (hConditionedIdeal : Cert.ConditionedIdeal.Facts) (hBounds : Cert.Bounds.Facts) (hBoundsIdeal : Cert.BoundsIdeal.Facts) (hBoundedIdeal : Cert.BoundedIdeal.Facts) (hOnline : Cert.Online.Facts) (hOnlineIdeal : Cert.OnlineIdeal.Facts) (hMixing : Cert.Mixing.Facts) (hMixingIdeal : Cert.MixingIdeal.Facts) (hMixedIdeal : Cert.MixedIdeal.Facts) (hPre_routing_tables : Cert.Pre_routing_tables.Facts) (hPre_finite_arguments : Cert.Pre_finite_arguments.Facts) (hPre_finite_scores : Cert.Pre_finite_scores.Facts),
    quiescent_Kernel (hKernel := hKernel) (hPre_routing_tables := hPre_routing_tables)
    ∧ quiescent_KernelIdeal (hKernelIdeal := hKernelIdeal) (hPre_routing_tables := hPre_routing_tables)
    ∧ quiescent_ReferenceIdeal (hReferenceIdeal := hReferenceIdeal)
    ∧ quiescent_ReferenceIdeal_pre_routing_tables (hReferenceIdeal := hReferenceIdeal) (hPre_routing_tables := hPre_routing_tables)
    ∧ quiescent_Attention (hAttention := hAttention)
    ∧ quiescent_AttentionIdeal (hAttentionIdeal := hAttentionIdeal)
    ∧ quiescent_AttentionIdeal_pre_finite_arguments (hAttentionIdeal := hAttentionIdeal) (hPre_finite_arguments := hPre_finite_arguments)
    ∧ quiescent_SoftmaxIdeal (hSoftmaxIdeal := hSoftmaxIdeal)
    ∧ quiescent_SoftmaxIdeal_pre_finite_arguments (hSoftmaxIdeal := hSoftmaxIdeal) (hPre_finite_arguments := hPre_finite_arguments)
    ∧ quiescent_SoftmaxIdeal_pre_finite_scores (hSoftmaxIdeal := hSoftmaxIdeal) (hPre_finite_scores := hPre_finite_scores)
    ∧ quiescent_Projection (hProjection := hProjection)
    ∧ quiescent_ProjectionIdeal (hProjectionIdeal := hProjectionIdeal)
    ∧ quiescent_ProjectedIdeal (hProjectedIdeal := hProjectedIdeal)
    ∧ quiescent_Modulation (hModulation := hModulation)
    ∧ quiescent_ModulationIdeal (hModulationIdeal := hModulationIdeal)
    ∧ quiescent_ConditionedIdeal (hConditionedIdeal := hConditionedIdeal)
    ∧ quiescent_Bounds (hBounds := hBounds)
    ∧ quiescent_BoundsIdeal (hBoundsIdeal := hBoundsIdeal)
    ∧ quiescent_BoundedIdeal (hBoundedIdeal := hBoundedIdeal)
    ∧ quiescent_Online (hOnline := hOnline)
    ∧ quiescent_OnlineIdeal (hOnlineIdeal := hOnlineIdeal)
    ∧ quiescent_OnlineIdeal_pre_finite_scores (hOnlineIdeal := hOnlineIdeal) (hPre_finite_scores := hPre_finite_scores)
    ∧ quiescent_Mixing (hMixing := hMixing)
    ∧ quiescent_MixingIdeal (hMixingIdeal := hMixingIdeal)
    ∧ quiescent_MixedIdeal (hMixedIdeal := hMixedIdeal)
    ∧ preserves_Kernel_KernelIdeal
    ∧ algebraic_KernelIdeal_ReferenceIdeal (hKernelIdeal := hKernelIdeal) (hReferenceIdeal := hReferenceIdeal) (hPre_routing_tables := hPre_routing_tables)
    ∧ preserves_Attention_AttentionIdeal
    ∧ algebraic_AttentionIdeal_SoftmaxIdeal_pre_finite_arguments (hAttentionIdeal := hAttentionIdeal) (hSoftmaxIdeal := hSoftmaxIdeal) (hPre_finite_arguments := hPre_finite_arguments)
    ∧ preserves_Projection_ProjectionIdeal
    ∧ algebraic_ProjectionIdeal_ProjectedIdeal (hProjectionIdeal := hProjectionIdeal) (hProjectedIdeal := hProjectedIdeal)
    ∧ preserves_Modulation_ModulationIdeal
    ∧ algebraic_ModulationIdeal_ConditionedIdeal (hModulationIdeal := hModulationIdeal) (hConditionedIdeal := hConditionedIdeal)
    ∧ preserves_Bounds_BoundsIdeal
    ∧ algebraic_BoundsIdeal_BoundedIdeal (hBoundsIdeal := hBoundsIdeal) (hBoundedIdeal := hBoundedIdeal)
    ∧ preserves_Online_OnlineIdeal
    ∧ algebraic_OnlineIdeal_SoftmaxIdeal_pre_finite_scores (hOnlineIdeal := hOnlineIdeal) (hSoftmaxIdeal := hSoftmaxIdeal) (hPre_finite_scores := hPre_finite_scores)
    ∧ preserves_Mixing_MixingIdeal
    ∧ algebraic_MixingIdeal_MixedIdeal (hMixingIdeal := hMixingIdeal) (hMixedIdeal := hMixedIdeal)
-- ==== Pre_finite_arguments.lean ====
abbrev S1x1 : Shape := ⟨2, ![1, 1]⟩
abbrev S8x2x16x128x512 : Shape := ⟨5, ![8, 2, 16, 128, 512]⟩
abbrev S8x2048x128 : Shape := ⟨3, ![8, 2048, 128]⟩
abbrev S8x4x128x512 : Shape := ⟨4, ![8, 4, 128, 512]⟩
abbrev S_ : Shape := ⟨0, ![]⟩

class Facts : Prop where
  bcast_S_S1x1 : S_.BroadcastsInDim S1x1 (![] : Fin 0 → Fin S1x1.rank)
  reducesTo_S1x1_S_d0_1 : S1x1.ReducesTo [0, 1] S_
  h_S_ : 0 < S_.numel
  bitsLt_bf16_f32 : FTy.bits .bf16 < FTy.bits .f32
  bcast_S_S8x2x16x128x512 : S_.BroadcastsInDim S8x2x16x128x512 (![] : Fin 0 → Fin S8x2x16x128x512.rank)
  reducesTo_S8x2x16x128x512_S_d0_1_2_3_4 : S8x2x16x128x512.ReducesTo [0, 1, 2, 3, 4] S_
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S1x1 .f32) (main_arg1 : FVec F S8x2x16x128x512 .bf16) (main_arg2 : FVec F S8x2048x128 .bf16) (main_arg3 : FVec F S8x4x128x512 .bf16) : IVec S_ 1 :=
  let main_v0 : FVec F S1x1 .f32 := Host.absf main_arg0
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_c : IVec S_ 1 := constantI S_ 1 1#1
  let main_v3 : IVec S_ 1 := (fun x v => Host.reduce IntOp.andi x v reducesTo_S1x1_S_d0_1 h_S_) main_v2 main_c
  let main_v4 : FVec F S8x2x16x128x512 .f32 := (extf .f32 · bitsLt_bf16_f32) main_arg1
  let main_v5 : FVec F S8x2x16x128x512 .f32 := Host.absf main_v4
  let main_cst_0 : FVec F S_ .f32 := constant S_ .f32 0x7F800000#32
  let main_v6 : FVec F S8x2x16x128x512 .f32 := broadcastInDim S8x2x16x128x512 ![] bcast_S_S8x2x16x128x512 main_cst_0
  let main_v7 : IVec S8x2x16x128x512 1 := cmpf .olt main_v5 main_v6
  let main_c_1 : IVec S_ 1 := constantI S_ 1 1#1
  let main_v8 : IVec S_ 1 := (fun x v => Host.reduce IntOp.andi x v reducesTo_S8x2x16x128x512_S_d0_1_2_3_4 h_S_) main_v7 main_c_1
  let main_v9 : IVec S_ 1 := andi main_v3 main_v8
  let main_v10 : FVec F S8x2048x128 .f32 := (extf .f32 · bitsLt_bf16_f32) main_arg2
  let main_v11 : FVec F S8x2048x128 .f32 := Host.absf main_v10
  let main_cst_2 : FVec F S_ .f32 := constant S_ .f32 0x7F800000#32
  let main_v12 : FVec F S8x2048x128 .f32 := broadcastInDim S8x2048x128 ![] bcast_S_S8x2048x128 main_cst_2
  let main_v13 : IVec S8x2048x128 1 := cmpf .olt main_v11 main_v12
  let main_c_3 : IVec S_ 1 := constantI S_ 1 1#1
  let main_v14 : IVec S_ 1 := (fun x v => Host.reduce IntOp.andi x v reducesTo_S8x2048x128_S_d0_1_2 h_S_) main_v13 main_c_3
  let main_v15 : IVec S_ 1 := andi main_v9 main_v14
  main_v15
-- ==== Pre_finite_scores.lean ====
abbrev S1x1 : Shape := ⟨2, ![1, 1]⟩
abbrev S8x2x16x128x512 : Shape := ⟨5, ![8, 2, 16, 128, 512]⟩
abbrev S8x2048x128 : Shape := ⟨3, ![8, 2048, 128]⟩
abbrev S8x4x128x512 : Shape := ⟨4, ![8, 4, 128, 512]⟩
abbrev S_ : Shape := ⟨0, ![]⟩

class Facts : Prop where
  bitsLt_bf16_f32 : FTy.bits .bf16 < FTy.bits .f32
  bcast_S_S8x2x16x128x512 : S_.BroadcastsInDim S8x2x16x128x512 (![] : Fin 0 → Fin S8x2x16x128x512.rank)
  reducesTo_S8x2x16x128x512_S_d0_1_2_3_4 : S8x2x16x128x512.ReducesTo [0, 1, 2, 3, 4] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S1x1 .f32) (main_arg1 : FVec F S8x2x16x128x512 .bf16) (main_arg2 : FVec F S8x2048x128 .bf16) (main_arg3 : FVec F S8x4x128x512 .bf16) : IVec S_ 1 :=
  let main_v0 : FVec F S8x2x16x128x512 .f32 := (extf .f32 · bitsLt_bf16_f32) main_arg1
  let main_v1 : FVec F S8x2x16x128x512 .f32 := Host.absf main_v0
  let main_cst : FVec F S_ .f32 := constant S_ .f32 0x7F800000#32
  let main_v2 : FVec F S8x2x16x128x512 .f32 := broadcastInDim S8x2x16x128x512 ![] bcast_S_S8x2x16x128x512 main_cst
  let main_v3 : IVec S8x2x16x128x512 1 := cmpf .olt main_v1 main_v2
  let main_c : IVec S_ 1 := constantI S_ 1 1#1
  let main_v4 : IVec S_ 1 := (fun x v => Host.reduce IntOp.andi x v reducesTo_S8x2x16x128x512_S_d0_1_2_3_4 h_S_) main_v3 main_c
  let main_v5 : FVec F S8x2048x128 .f32 := (extf .f32 · bitsLt_bf16_f32) main_arg2
  let main_v6 : FVec F S8x2048x128 .f32 := Host.absf main_v5
  let main_cst_0 : FVec F S_ .f32 := constant S_ .f32 0x7F800000#32
  let main_v7 : FVec F S8x2048x128 .f32 := broadcastInDim S8x2048x128 ![] bcast_S_S8x2048x128 main_cst_0
  let main_v8 : IVec S8x2048x128 1 := cmpf .olt main_v6 main_v7
  let main_c_1 : IVec S_ 1 := constantI S_ 1 1#1
  let main_v9 : IVec S_ 1 := (fun x v => Host.reduce IntOp.andi x v reducesTo_S8x2048x128_S_d0_1_2 h_S_) main_v8 main_c_1
  let main_v10 : IVec S_ 1 := andi main_v4 main_v9
  main_v10
-- ==== Pre_routing_tables.lean ====
abbrev S4x4096x1024 : Shape := ⟨3, ![4, 4096, 1024]⟩
abbrev S32896 : Shape := ⟨1, ![32896]⟩
abbrev S320 : Shape := ⟨1, ![320]⟩
abbrev S32x1024x512 : Shape := ⟨3, ![32, 1024, 512]⟩
abbrev S32x512x1024 : Shape := ⟨3, ![32, 512, 1024]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel
  bcast_S_S32896 : S_.BroadcastsInDim S32896 (![] : Fin 0 → Fin S32896.rank)
  reducesTo_S32896_S_d0 : S32896.ReducesTo [0] S_

variable [Facts]

def fn_part1 {F : FTy → Type} [FloatOps F] (main_arg1 : IVec S32896 32) (main_v12 : IVec S_ 1) (main_v14 : IVec S32896 1) (main_v15 : IVec S32896 32) : IVec S_ 1 :=
  let main_v16 : IVec S32896 1 := cmpi .slt main_arg1 main_v15
  let main_v17 : IVec S32896 1 := andi main_v14 main_v16
  let main_c_7 : IVec S_ 1 := constantI S_ 1 1#1
  let main_v18 : IVec S_ 1 := (fun x v => Host.reduce IntOp.andi x v reducesTo_S32896_S_d0 h_S_) main_v17 main_c_7
  let main_v19 : IVec S_ 1 := andi main_v12 main_v18
  main_v19

def fn {F : FTy → Type} [FloatOps F] (main_arg0 : FVec F S4x4096x1024 .f32) (main_arg1 : IVec S32896 32) (main_arg2 : IVec S320 32) (main_arg3 : IVec S320 32) (main_arg4 : IVec S320 32) (main_arg5 : FVec F S32x1024x512 .bf16) (main_arg6 : FVec F S32x1024x512 .bf16) (main_arg7 : FVec F S32x512x1024 .bf16) : IVec S_ 1 :=
  let main_c : IVec S_ 32 := constantI S_ 32 0#32
  let main_v0 : IVec S320 32 := broadcastInDim S320 ![] bcast_S_S320 main_c
  let main_v1 : IVec S320 1 := cmpi .sge main_arg2 main_v0
  let main_c_0 : IVec S_ 32 := constantI S_ 32 16#32
  let main_v2 : IVec S320 32 := broadcastInDim S320 ![] bcast_S_S320 main_c_0
  let main_v3 : IVec S320 1 := cmpi .slt main_arg2 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  let main_c_2 : IVec S_ 32 := constantI S_ 32 0#32
  let main_v6 : IVec S320 32 := broadcastInDim S320 ![] bcast_S_S320 main_c_2
  let main_v7 : IVec S320 1 := cmpi .sge main_arg4 main_v6
  let main_c_3 : IVec S_ 32 := constantI S_ 32 32768#32
  let main_v8 : IVec S320 32 := broadcastInDim S320 ![] bcast_S_S320 main_c_3
  let main_v9 : IVec S320 1 := cmpi .sle main_arg4 main_v8
  let main_v10 : IVec S320 1 := andi main_v7 main_v9
  let main_c_4 : IVec S_ 1 := constantI S_ 1 1#1
  let main_v11 : IVec S_ 1 := (fun x v => Host.reduce IntOp.andi x v reducesTo_S320_S_d0 h_S_) main_v10 main_c_4
  let main_v12 : IVec S_ 1 := andi main_v5 main_v11
  let main_c_5 : IVec S_ 32 := constantI S_ 32 0#32
  let main_v13 : IVec S32896 32 := broadcastInDim S32896 ![] bcast_S_S32896 main_c_5
  let main_v14 : IVec S32896 1 := cmpi .sge main_arg1 main_v13
  let main_c_6 : IVec S_ 32 := constantI S_ 32 4096#32
  let main_v15 : IVec S32896 32 := broadcastInDim S32896 ![] bcast_S_S32896 main_c_6
  fn_part1 (F := F) main_arg1 main_v12 main_v14 main_v15
-- ==== Kernel.lean ====
abbrev S4x4096x1024 : Shape := ⟨3, ![4, 4096, 1024]⟩
abbrev S32896 : Shape := ⟨1, ![32896]⟩
abbrev S320 : Shape := ⟨1, ![320]⟩
abbrev S32x1024x512 : Shape := ⟨3, ![32, 1024, 512]⟩
abbrev S32x512x1024 : Shape := ⟨3, ![32, 512, 1024]⟩
abbrev S40960x1024 : Shape := ⟨2, ![40960, 1024]⟩
abbrev S1x4096x1024 : Shape := ⟨3, ![1, 4096, 1024]⟩
abbrev S1x1024x512 : Shape := ⟨3, ![1, 1024, 512]⟩
abbrev S1 : Shape := ⟨1, ![1]⟩
abbrev S1x512x1024 : Shape := ⟨3, ![1, 512, 1024]⟩
abbrev S128x1024 : Shape := ⟨2, ![128, 1024]⟩
abbrev S1x1x1024 : Shape := ⟨3, ![1, 1, 1024]⟩
abbrev S1x1024 : Shape := ⟨2, ![1, 1024]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 5
  | .vmem => 11
  | .smem => 4
  | _ => 0

abbrev bufTy : (tb : Table) → Fin (tcTables nBuf tb) → BufTy
  | .hbm, ⟨0, _⟩ => ⟨S4x4096x1024, .f32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S40960x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .smem, ⟨0, _⟩ => ⟨S320, .i32⟩
  | .local _ .smem, ⟨1, _⟩ => ⟨S320, .i32⟩
  | .local _ .smem, ⟨2, _⟩ => ⟨S320, .i32⟩
  | .local _ .smem, ⟨3, _⟩ => ⟨S32896, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg1 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨4, ![main_arg2.idx, main_arg3.idx, main_arg4.idx, main_arg1.idx], fun | 0 => main_arg2.names | 1 => main_arg3.names | 2 => main_arg4.names | 3 => main_arg1.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v10 : Index := Scalar.indexCast arg0
  ![v10.toNat]
@[reducible] def k0_t1_loop : Scf.Loop 32 :=
  let c0_i32_3 : BitVec 32 := 0#32
  let c128_i32 : BitVec 32 := 128#32
  let v12 : BitVec 32 := Scalar.addi c0_i32_3 c128_i32
  let c1_i32 : BitVec 32 := 1#32
  ⟨c0_i32_3, v12, c1_i32⟩
def k0_off3 (v11 : BitVec 32) (k0_t1 : Fin k0_t1_loop.trips) : Fin 1 → Nat :=
  let c0_i32_3 : BitVec 32 := 0#32
  let c1_i32 : BitVec 32 := 1#32
  let arg11 : BitVec 32 := Scf.iv c0_i32_3 c1_i32 k0_t1
  let v35 : BitVec 32 := Scalar.addi v11 arg11
  let v36 : Index := Scalar.indexCast v35
  ![v36.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_chk1 (v1 : BitVec 32) (v11 : BitVec 32) : Prop :=
  (∀ k0_t1 : Fin k0_t1_loop.trips, ∀ (k0_h1 : k0_cond1 v1 = 1#1), ∀ a, (k0_off3 v11 k0_t1) a + S1.size a ≤ S32896.size a)
theorem k0_off3_inb : ∀ (v1 : BitVec 32) (v11 : BitVec 32) (k0_hw1 : k0_chk1 v1 v11) (k0_t1 : Fin k0_t1_loop.trips), ∀ (k0_h1 : k0_cond1 v1 = 1#1), ∀ a, (k0_off3 v11 k0_t1) a + S1.size a ≤ S32896.size a := fun v1 v11 k0_hw1 k0_t1 k0_h1 => k0_hw1 k0_t1 k0_h1

def k0_off4 (v37 : BitVec 32) : Fin 3 → Nat :=
  let c0_22 : Index := 0#32
  let v38 : Index := Scalar.indexCast v37
  let c0_23 : Index := 0#32
  ![0, v38.toNat, 0]

def k0_chk2 (v1 : BitVec 32) (v37 : BitVec 32) : Prop :=
  (∀ (k0_h1 : k0_cond1 v1 = 1#1), ∀ a, (k0_off4 v37) a + S1x1x1024.size a ≤ S1x4096x1024.size a)
theorem k0_off4_inb : ∀ (v1 : BitVec 32) (v37 : BitVec 32) (k0_hw2 : k0_chk2 v1 v37), ∀ (k0_h1 : k0_cond1 v1 = 1#1), ∀ a, (k0_off4 v37) a + S1x1x1024.size a ≤ S1x4096x1024.size a := fun v1 v37 k0_hw2 k0_h1 => k0_hw2 k0_h1

def k0_off5 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let v41 : Index := Scalar.indexCast arg11
  let c0_24 : Index := 0#32
  ![v41.toNat, 0]
def k0_off6 (i : grid0.Coords) : Fin 1 → Nat :=
  let arg0 : BitVec 32 := BitVec.ofNat 32 (i 0).val
  let v5 : Index := Scalar.indexCast arg0
  ![v5.toNat]
def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c80_i32 : BitVec 32 := 80#32
  let v0 : BitVec 32 := Scalar.divsi arg0 c80_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c80_i32 c0_i32_1
  let v7 : BitVec 32 := Scalar.extui v6
  let c0_i32_2 : BitVec 32 := 0#32
  let v8 : BitVec 1 := Scalar.cmpi .slt c80_i32 c0_i32_2
  let v9 : BitVec 32 := Scalar.extui v8
  let v10 : BitVec 32 := Scalar.subi v7 v9
  let v11 : BitVec 1 := Scalar.cmpi .ne v5 v10
  let v12 : BitVec 32 := Scalar.remsi arg0 c80_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x1024 : Shape := ⟨3, ![4, 4096, 1024]⟩
abbrev S32896 : Shape := ⟨1, ![32896]⟩
abbrev S320 : Shape := ⟨1, ![320]⟩
abbrev S32x1024x512 : Shape := ⟨3, ![32, 1024, 512]⟩
abbrev S32x512x1024 : Shape := ⟨3, ![32, 512, 1024]⟩
abbrev S16x1024x512 : Shape := ⟨3, ![16, 1024, 512]⟩
abbrev S16x512x4x4096 : Shape := ⟨4, ![16, 512, 4, 4096]⟩
abbrev S16x4x4096x512 : Shape := ⟨4, ![16, 4, 4096, 512]⟩
abbrev S_ : Shape := ⟨0, ![]⟩
abbrev S16x512x1024 : Shape := ⟨3, ![16, 512, 1024]⟩
abbrev S16x4x4096x1024 : Shape := ⟨4, ![16, 4, 4096, 1024]⟩
abbrev S4 : Shape := ⟨1, ![4]⟩
abbrev S4x80 : Shape := ⟨2, ![4, 80]⟩
abbrev S320x1 : Shape := ⟨2, ![320, 1]⟩
abbrev S128 : Shape := ⟨1, ![128]⟩
abbrev S1x128 : Shape := ⟨2, ![1, 128]⟩
abbrev S320x128 : Shape := ⟨2, ![320, 128]⟩
abbrev S320x128x1 : Shape := ⟨3, ![320, 128, 1]⟩
abbrev S320x128x3 : Shape := ⟨3, ![320, 128, 3]⟩
abbrev S320x128x1024 : Shape := ⟨3, ![320, 128, 1024]⟩
abbrev S320x1x1 : Shape := ⟨3, ![320, 1, 1]⟩
abbrev S40960x1024 : Shape := ⟨2, ![40960, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S32896, .i32⟩
  | .hbm, ⟨2, _⟩ => ⟨S320, .i32⟩
  | .hbm, ⟨3, _⟩ => ⟨S320, .i32⟩
  | .hbm, ⟨4, _⟩ => ⟨S320, .i32⟩
  | .hbm, ⟨5, _⟩ => ⟨S32x1024x512, .bf16⟩
  | .hbm, ⟨6, _⟩ => ⟨S32x1024x512, .bf16⟩
  | .hbm, ⟨7, _⟩ => ⟨S32x512x1024, .bf16⟩
  | .hbm, ⟨8, _⟩ => ⟨S16x1024x512, .bf16⟩
  | .hbm, ⟨9, _⟩ => ⟨S16x1024x512, .f32⟩
  | .hbm, ⟨10, _⟩ => ⟨S16x512x4x4096, .f32⟩
  | .hbm, ⟨11, _⟩ => ⟨S16x4x4096x512, .f32⟩
  | .hbm, ⟨12, _⟩ => ⟨S16x1024x512, .bf16⟩
  | .hbm, ⟨13, _⟩ => ⟨S16x1024x512, .f32⟩
  | .hbm, ⟨14, _⟩ => ⟨S16x512x4x4096, .f32⟩
  | .hbm, ⟨15, _⟩ => ⟨S16x4x4096x512, .f32⟩
  | .hbm, ⟨16, _⟩ => ⟨S16x4x4096x512, .f32⟩
  | .hbm, ⟨17, _⟩ => ⟨S16x4x4096x512, .f32⟩
  | .hbm, ⟨18, _⟩ => ⟨S_, .f32⟩
  | .hbm, ⟨19, _⟩ => ⟨S16x4x4096x512, .f32⟩
  | .hbm, ⟨20, _⟩ => ⟨S16x4x4096x512, .f32⟩
  | .hbm, ⟨21, _⟩ => ⟨S_, .f32⟩
  | .hbm, ⟨22, _⟩ => ⟨S16x4x4096x512, .f32⟩
  | .hbm, ⟨23, _⟩ => ⟨S16x4x4096x512, .f32⟩
  | .hbm, ⟨24, _⟩ => ⟨S16x4x4096x512, .f32⟩
  | .hbm, ⟨25, _⟩ => ⟨S16x4x4096x512, .f32⟩
  | .hbm, ⟨26, _⟩ => ⟨S16x512x1024, .bf16⟩
  | .hbm, ⟨27, _⟩ => ⟨S16x512x1024, .f32⟩
  | .hbm, ⟨28, _⟩ => ⟨S16x4x4096x1024, .f32⟩
  | .hbm, ⟨29, _⟩ => ⟨S4, .i32⟩
  | .hbm, ⟨30, _⟩ => ⟨S4x80, .i32⟩
  | .hbm, ⟨31, _⟩ => ⟨S320, .i32⟩
  | .hbm, ⟨32, _⟩ => ⟨S320x1, .i32⟩
  | .hbm, ⟨33, _⟩ => ⟨S128, .i32⟩
  | .hbm, ⟨34, _⟩ => ⟨S1x128, .i32⟩
  | .hbm, ⟨35, _⟩ => ⟨S320x128, .i32⟩
  | .hbm, ⟨36, _⟩ => ⟨S320x128, .i32⟩
  | .hbm, ⟨37, _⟩ => ⟨S320x128, .i32⟩
  | .hbm, ⟨38, _⟩ => ⟨S_, .i32⟩
  | .hbm, ⟨39, _⟩ => ⟨S320x128, .i32⟩
  | .hbm, ⟨40, _⟩ => ⟨S320x128, .i1⟩
  | .hbm, ⟨41, _⟩ => ⟨S_, .i32⟩
  | .hbm, ⟨42, _⟩ => ⟨S320x128, .i32⟩
  | .hbm, ⟨43, _⟩ => ⟨S320x128, .i32⟩
  | .hbm, ⟨44, _⟩ => ⟨S320x128, .i32⟩
  | .hbm, ⟨45, _⟩ => ⟨S320x128x1, .i32⟩
  | .hbm, ⟨46, _⟩ => ⟨S320x128, .i32⟩
  | .hbm, ⟨47, _⟩ => ⟨S320x1, .i32⟩
  | .hbm, ⟨48, _⟩ => ⟨S320x1, .i32⟩
  | .hbm, ⟨49, _⟩ => ⟨S_, .i32⟩
  | .hbm, ⟨50, _⟩ => ⟨S320x1, .i32⟩
  | .hbm, ⟨51, _⟩ => ⟨S320x1, .i1⟩
  | .hbm, ⟨52, _⟩ => ⟨S_, .i32⟩
  | .hbm, ⟨53, _⟩ => ⟨S320x1, .i32⟩
  | .hbm, ⟨54, _⟩ => ⟨S320x1, .i32⟩
  | .hbm, ⟨55, _⟩ => ⟨S320x1, .i32⟩
  | .hbm, ⟨56, _⟩ => ⟨S_, .i32⟩
  | .hbm, ⟨57, _⟩ => ⟨S320x1, .i32⟩
  | .hbm, ⟨58, _⟩ => ⟨S320x1, .i1⟩
  | .hbm, ⟨59, _⟩ => ⟨S_, .i32⟩
  | .hbm, ⟨60, _⟩ => ⟨S320x1, .i32⟩
  | .hbm, ⟨61, _⟩ => ⟨S320x1, .i32⟩
  | .hbm, ⟨62, _⟩ => ⟨S320x1, .i32⟩
  | .hbm, ⟨63, _⟩ => ⟨S_, .i32⟩
  | .hbm, ⟨64, _⟩ => ⟨S320x128, .i32⟩
  | .hbm, ⟨65, _⟩ => ⟨S320x128, .i1⟩
  | .hbm, ⟨66, _⟩ => ⟨S_, .i32⟩
  | .hbm, ⟨67, _⟩ => ⟨S320x128, .i32⟩
  | .hbm, ⟨68, _⟩ => ⟨S320x128, .i32⟩
  | .hbm, ⟨69, _⟩ => ⟨S320x128, .i32⟩
  | .hbm, ⟨70, _⟩ => ⟨S320x128, .i32⟩
  | .hbm, ⟨71, _⟩ => ⟨S320x128, .i32⟩
  | .hbm, ⟨72, _⟩ => ⟨S320x128x1, .i32⟩
  | .hbm, ⟨73, _⟩ => ⟨S320x128x1, .i32⟩
  | .hbm, ⟨74, _⟩ => ⟨S320x128x1, .i32⟩
  | .hbm, ⟨75, _⟩ => ⟨S320x128x3, .i32⟩
  | .hbm, ⟨76, _⟩ => ⟨S320x128x1024, .f32⟩
  | .hbm, ⟨77, _⟩ => ⟨S_, .i32⟩
  | .hbm, ⟨78, _⟩ => ⟨S320, .i32⟩
  | .hbm, ⟨79, _⟩ => ⟨S320, .i1⟩
  | .hbm, ⟨80, _⟩ => ⟨S320x1x1, .i1⟩
  | .hbm, ⟨81, _⟩ => ⟨S_, .f32⟩
  | .hbm, ⟨82, _⟩ => ⟨S_, .f32⟩
  | .hbm, ⟨83, _⟩ => ⟨S320x128x1024, .i1⟩
  | .hbm, ⟨84, _⟩ => ⟨S320x128x1024, .f32⟩
  | .hbm, ⟨85, _⟩ => ⟨S320x128x1024, .f32⟩
  | .hbm, ⟨86, _⟩ => ⟨S40960x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== Attention.lean ====
abbrev S1x1 : Shape := ⟨2, ![1, 1]⟩
abbrev S8x2x16x128x512 : Shape := ⟨5, ![8, 2, 16, 128, 512]⟩
abbrev S8x2048x128 : Shape := ⟨3, ![8, 2048, 128]⟩
abbrev S8x4x128x512 : Shape := ⟨4, ![8, 4, 128, 512]⟩
abbrev S8x2048x512 : Shape := ⟨3, ![8, 2048, 512]⟩
abbrev S1x2x1x128x512 : Shape := ⟨5, ![1, 2, 1, 128, 512]⟩
abbrev S1x2048x128 : Shape := ⟨3, ![1, 2048, 128]⟩
abbrev S1x4x128x512 : Shape := ⟨4, ![1, 4, 128, 512]⟩
abbrev S1x128x512 : Shape := ⟨3, ![1, 128, 512]⟩
abbrev S2x128x512 : Shape := ⟨3, ![2, 128, 512]⟩
abbrev S1x512 : Shape := ⟨2, ![1, 512]⟩
abbrev S1x512x128 : Shape := ⟨3, ![1, 512, 128]⟩
abbrev S512x128 : Shape := ⟨2, ![512, 128]⟩
abbrev S1x1x128x512 : Shape := ⟨4, ![1, 1, 128, 512]⟩
abbrev S128x512 : Shape := ⟨2, ![128, 512]⟩
abbrev S1x1x1x128x512 : Shape := ⟨5, ![1, 1, 1, 128, 512]⟩
abbrev S512x512 : Shape := ⟨2, ![512, 512]⟩
abbrev S512 : Shape := ⟨1, ![512]⟩
abbrev S512x64 : Shape := ⟨2, ![512, 64]⟩
abbrev S128x64 : Shape := ⟨2, ![128, 64]⟩

abbrev nBuf : Space → Nat
  | .hbm => 5
  | .vmem => 9
  | .smem => 1
  | _ => 0

abbrev bufTy : (tb : Table) → Fin (tcTables nBuf tb) → BufTy
  | .hbm, ⟨0, _⟩ => ⟨S1x1, .f32⟩
  | .hbm, ⟨1, _⟩ => ⟨S8x2x16x128x512, .bf16⟩
  | .hbm, ⟨2, _⟩ => ⟨S8x2048x128, .bf16⟩
  | .hbm, ⟨3, _⟩ => ⟨S8x4x128x512, .bf16⟩
  | .hbm, ⟨4, _⟩ => ⟨S8x2048x512, .bf16⟩
  | .local _ .vmem, ⟨0, _⟩ => ⟨S1x2x1x128x512, .bf16⟩
  | .local _ .vmem, ⟨1, _⟩ => ⟨S1x2x1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S2x128x512, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c512_i32 : BitVec 32 := 512#32
  let v7 : BitVec 32 := Scalar.muli c0_i32 c512_i32
  v7
def k0_off1 (c0_i32 : BitVec 32) : Fin 3 → Nat :=
  let c0_6 : Index := 0#32
  let c512_i32 : BitVec 32 := 512#32
  let v7 : BitVec 32 := Scalar.muli c0_i32 c512_i32
  let v8 : BitVec 32 := v7
  let v9 : Index := Scalar.indexCast v8
  let c0_7 : Index := 0#32
  ![0, v9.toNat, 0]
def k0_mult2 : BitVec 32 :=
  let c1_i32 : BitVec 32 := 1#32
  let c512_i32_38 : BitVec 32 := 512#32
  let v49 : BitVec 32 := Scalar.muli c1_i32 c512_i32_38
  v49
def k0_mult3 : BitVec 32 :=
  let c2_i32 : BitVec 32 := 2#32
  let c512_i32_72 : BitVec 32 := 512#32
  let v91 : BitVec 32 := Scalar.muli c2_i32 c512_i32_72
  v91
def k0_mult4 : BitVec 32 :=
  let c3_i32 : BitVec 32 := 3#32
  let c512_i32_106 : BitVec 32 := 512#32
  let v133 : BitVec 32 := Scalar.muli c3_i32 c512_i32_106
  v133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SoftmaxIdeal.lean ====
abbrev S1x1 : Shape := ⟨2, ![1, 1]⟩
abbrev S8x2x16x128x512 : Shape := ⟨5, ![8, 2, 16, 128, 512]⟩
abbrev S8x2048x128 : Shape := ⟨3, ![8, 2048, 128]⟩
abbrev S8x4x128x512 : Shape := ⟨4, ![8, 4, 128, 512]⟩
abbrev S8x2x16x128x4x128 : Shape := ⟨6, ![8, 2, 16, 128, 4, 128]⟩
abbrev S8x16x128x2x4x128 : Shape := ⟨6, ![8, 16, 128, 2, 4, 128]⟩
abbrev S8x2048x2x4x128 : Shape := ⟨5, ![8, 2048, 2, 4, 128]⟩
abbrev S8x4x512x128 : Shape := ⟨4, ![8, 4, 512, 128]⟩
abbrev S8x2048x2x64 : Shape := ⟨4, ![8, 2048, 2, 64]⟩
abbrev S8x2048x2048x2x4 : Shape := ⟨5, ![8, 2048, 2048, 2, 4]⟩
abbrev S8x2x4x2048x2048 : Shape := ⟨5, ![8, 2, 4, 2048, 2048]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x2x4x64 : Shape := ⟨5, ![8, 2048, 2, 4, 64]⟩
abbrev S8x2048x512 : Shape := ⟨3, ![8, 2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S8x2x16x128x512, .bf16⟩
  | .hbm, ⟨2, _⟩ => ⟨S8x2048x128, .bf16⟩
  | .hbm, ⟨3, _⟩ => ⟨S8x4x128x512, .bf16⟩
  | .hbm, ⟨4, _⟩ => ⟨S8x2x16x128x512, .f32⟩
  | .hbm, ⟨5, _⟩ => ⟨S8x2x16x128x4x128, .f32⟩
  | .hbm, ⟨6, _⟩ => ⟨S8x16x128x2x4x128, .f32⟩
  | .hbm, ⟨7, _⟩ => ⟨S8x2048x2x4x128, .f32⟩
  | .hbm, ⟨8, _⟩ => ⟨S8x2048x128, .f32⟩
  | .hbm, ⟨9, _⟩ => ⟨S8x4x128x512, .f32⟩
  | .hbm, ⟨10, _⟩ => ⟨S8x4x512x128, .f32⟩
  | .hbm, ⟨11, _⟩ => ⟨S8x2048x2x64, .f32⟩
  | .hbm, ⟨12, _⟩ => ⟨S8x2048x2048x2x4, .f32⟩
  | .hbm, ⟨13, _⟩ => ⟨S8x2x4x2048x2048, .f32⟩
  | .hbm, ⟨14, _⟩ => ⟨S_, .f32⟩
  | .hbm, ⟨15, _⟩ => ⟨S8x2x4x2048x2048, .f32⟩
  | .hbm, ⟨16, _⟩ => ⟨S_, .f32⟩
  | .hbm, ⟨17, _⟩ => ⟨S8x2x4x2048, .f32⟩
  | .hbm, ⟨18, _⟩ => ⟨S8x2x4x2048x1, .f32⟩
  | .hbm, ⟨19, _⟩ => ⟨S8x2x4x2048x2048, .f32⟩
  | .hbm, ⟨20, _⟩ => ⟨S8x2x4x2048x2048, .f32⟩
  | .hbm, ⟨21, _⟩ => ⟨S8x2x4x2048x2048, .f32⟩
  | .hbm, ⟨22, _⟩ => ⟨S_, .f32⟩
  | .hbm, ⟨23, _⟩ => ⟨S8x2x4x2048, .f32⟩
  | .hbm, ⟨24, _⟩ => ⟨S8x2x4x2048x1, .f32⟩
  | .hbm, ⟨25, _⟩ => ⟨S8x2x4x2048x2048, .f32⟩
  | .hbm, ⟨26, _⟩ => ⟨S8x2x4x2048x2048, .f32⟩
  | .hbm, ⟨27, _⟩ => ⟨S8x2x4x2048x2048, .bf16⟩
  | .hbm, ⟨28, _⟩ => ⟨S8x2x4x2048x2048, .f32⟩
  | .hbm, ⟨29, _⟩ => ⟨S8x2x64x4x2048, .f32⟩
  | .hbm, ⟨30, _⟩ => ⟨S8x2048x2x4x64, .f32⟩
  | .hbm, ⟨31, _⟩ => ⟨S8x2048x512, .f32⟩
  | .hbm, ⟨32, _⟩ => ⟨S8x2048x512, .bf16⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Projection.lean ====
abbrev S8x2048x1024 : Shape := ⟨3, ![8, 2048, 1024]⟩
abbrev S32x6x1024 : Shape := ⟨3, ![32, 6, 1024]⟩
abbrev S2x1x1024 : Shape := ⟨3, ![2, 1, 1024]⟩
abbrev S2x1024x3328 : Shape := ⟨3, ![2, 1024, 3328]⟩
abbrev S8x2048x3328 : Shape := ⟨3, ![8, 2048, 3328]⟩
abbrev S1x512x1024 : Shape := ⟨3, ![1, 512, 1024]⟩
abbrev S1x6x1024 : Shape := ⟨3, ![1, 6, 1024]⟩
abbrev S1x1x1024 : Shape := ⟨3, ![1, 1, 1024]⟩
abbrev S1x1024x3328 : Shape := ⟨3, ![1, 1024, 3328]⟩
abbrev S1x512x3328 : Shape := ⟨3, ![1, 512, 3328]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x3328 : Shape := ⟨2, ![1024, 3328]⟩
abbrev S512x3328 : Shape := ⟨2, ![512, 3328]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S32x6x1024, .f32⟩
  | .hbm, ⟨2, _⟩ => ⟨S2x1x1024, .f32⟩
  | .hbm, ⟨3, _⟩ => ⟨S2x1024x3328, .bf16⟩
  | .hbm, ⟨4, _⟩ => ⟨S8x2048x3328, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1x1024, .f32⟩
  | .local _ .vmem, ⟨5, _⟩ => ⟨S1x1024x3328, .bf16⟩
  | .local _ .vmem, ⟨6, _⟩ => ⟨S1x512x3328, .bf16⟩
  | .local _ .vmem, ⟨7, _⟩ => ⟨S1x512x3328, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectedIdeal.lean ====
abbrev S8x2048x1024 : Shape := ⟨3, ![8, 2048, 1024]⟩
abbrev S32x6x1024 : Shape := ⟨3, ![32, 6, 1024]⟩
abbrev S2x1x1024 : Shape := ⟨3, ![2, 1, 1024]⟩
abbrev S2x1024x3328 : Shape := ⟨3, ![2, 1024, 3328]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x3328 : Shape := ⟨3, ![1, 1024, 3328]⟩
abbrev S1024x3328 : Shape := ⟨2, ![1024, 3328]⟩
abbrev S8x2048x3328 : Shape := ⟨3, ![8, 2048, 3328]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S32x6x1024, .f32⟩
  | .hbm, ⟨2, _⟩ => ⟨S2x1x1024, .f32⟩
  | .hbm, ⟨3, _⟩ => ⟨S2x1024x3328, .bf16⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S1x1x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S1x1024x3328, .bf16⟩
  | .hbm, ⟨36, _⟩ => ⟨S1024x3328, .bf16⟩
  | .hbm, ⟨37, _⟩ => ⟨S1024x3328, .f32⟩
  | .hbm, ⟨38, _⟩ => ⟨S8x2048x3328, .f32⟩
  | .hbm, ⟨39, _⟩ => ⟨S8x2048x3328, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConditionedIdeal.lean ====
abbrev S16x1024 : Shape := ⟨2, ![16, 1024]⟩
abbrev S2x1024x6144 : Shape := ⟨3, ![2, 1024, 6144]⟩
abbrev S2x1x6144 : Shape := ⟨3, ![2, 1, 6144]⟩
abbrev S_ : Shape := ⟨0, ![]⟩
abbrev S2x6144x16 : Shape := ⟨3, ![2, 6144, 16]⟩
abbrev S2x16x6144 : Shape := ⟨3, ![2, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x16x6144, .f32⟩
  | .hbm, ⟨15, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Bounds.lean ====
abbrev S2x512 : Shape := ⟨2, ![2, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .local _ .vmem, ⟨0, _⟩ => ⟨S2x512, .f32⟩
  | .local _ .vmem, ⟨1, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundedIdeal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S_, .f32⟩
  | .hbm, ⟨17, _⟩ => ⟨S2x512, .f32⟩
  | .hbm, ⟨18, _⟩ => ⟨S1x512, .f32⟩
  | .hbm, ⟨19, _⟩ => ⟨S2x512, .f32⟩
  | .hbm, ⟨20, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Online.lean ====
abbrev S1x1 : Shape := ⟨2, ![1, 1]⟩
abbrev S8x2x16x128x512 : Shape := ⟨5, ![8, 2, 16, 128, 512]⟩
abbrev S8x2048x128 : Shape := ⟨3, ![8, 2048, 128]⟩
abbrev S8x4x128x512 : Shape := ⟨4, ![8, 4, 128, 512]⟩
abbrev S8x2048x512 : Shape := ⟨3, ![8, 2048, 512]⟩
abbrev S1x2x1x128x512 : Shape := ⟨5, ![1, 2, 1, 128, 512]⟩
abbrev S1x2048x128 : Shape := ⟨3, ![1, 2048, 128]⟩
abbrev S1x4x128x512 : Shape := ⟨4, ![1, 4, 128, 512]⟩
abbrev S1x128x512 : Shape := ⟨3, ![1, 128, 512]⟩
abbrev S2x128x512 : Shape := ⟨3, ![2, 128, 512]⟩
abbrev S1x1x1x128x512 : Shape := ⟨5, ![1, 1, 1, 128, 512]⟩
abbrev S128x512 : Shape := ⟨2, ![128, 512]⟩
abbrev S1x512 : Shape := ⟨2, ![1, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S1x1x128x512 : Shape := ⟨4, ![1, 1, 128, 512]⟩
abbrev S512x64 : Shape := ⟨2, ![512, 64]⟩
abbrev S128x64 : Shape := ⟨2, ![128, 64]⟩

abbrev nBuf : Space → Nat
  | .hbm => 5
  | .vmem => 9
  | .smem => 1
  | _ => 0

abbrev bufTy : (tb : Table) → Fin (tcTables nBuf tb) → BufTy
  | .hbm, ⟨0, _⟩ => ⟨S1x1, .f32⟩
  | .hbm, ⟨1, _⟩ => ⟨S8x2x16x128x512, .bf16⟩
  | .hbm, ⟨2, _⟩ => ⟨S8x2048x128, .bf16⟩
  | .hbm, ⟨3, _⟩ => ⟨S8x4x128x512, .bf16⟩
  | .hbm, ⟨4, _⟩ => ⟨S8x2048x512, .bf16⟩
  | .local _ .vmem, ⟨0, _⟩ => ⟨S1x2x1x128x512, .bf16⟩
  | .local _ .vmem, ⟨1, _⟩ => ⟨S1x2x1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S2x128x512, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v41 : BitVec 32 := Scalar.muli arg8 c512_i32
  v41
def k0_off1 (k0_t1 : Fin k0_t1_loop.trips) : Fin 3 → Nat :=
  let c0_29 : Index := 0#32
  let c0_i32 : BitVec 32 := 0#32
  let c1_i32 : BitVec 32 := 1#32
  let arg8 : BitVec 32 := Scf.iv c0_i32 c1_i32 k0_t1
  let c512_i32 : BitVec 32 := 512#32
  let v41 : BitVec 32 := Scalar.muli arg8 c512_i32
  let v42 : BitVec 32 := v41
  let v43 : Index := Scalar.indexCast v42
  let c0_30 : Index := 0#32
  ![0, v43.toNat, 0]
def k0_off2 (k0_t1 : Fin k0_t1_loop.trips) : Fin 4 → Nat :=
  let c0_37 : Index := 0#32
  let c0_i32 : BitVec 32 := 0#32
  let c1_i32 : BitVec 32 := 1#32
  let arg8 : BitVec 32 := Scf.iv c0_i32 c1_i32 k0_t1
  let v63 : Index := Scalar.indexCast arg8
  let c0_38 : Index := 0#32
  let c0_39 : Index := 0#32
  ![0, v63.toNat, 0, 0]
@[reducible] def k0_t2_loop : Scf.Loop 32 :=
  let c0_i32_16 : BitVec 32 := 0#32
  let c4_i32_17 : BitVec 32 := 4#32
  let v14 : BitVec 32 := Scalar.addi c0_i32_16 c4_i32_17
  let c1_i32_18 : BitVec 32 := 1#32
  ⟨c0_i32_16, v14, c1_i32_18⟩
def k0_mult2 (k0_t2 : Fin k0_t2_loop.trips) : BitVec 32 :=
  let c0_i32_16 : BitVec 32 := 0#32
  let c1_i32_18 : BitVec 32 := 1#32
  let arg8 : BitVec 32 := Scf.iv c0_i32_16 c1_i32_18 k0_t2
  let c512_i32 : BitVec 32 := 512#32
  let v41 : BitVec 32 := Scalar.muli arg8 c512_i32
  v41
def k0_off3 (k0_t2 : Fin k0_t2_loop.trips) : Fin 3 → Nat :=
  let c0_29 : Index := 0#32
  let c0_i32_16 : BitVec 32 := 0#32
  let c1_i32_18 : BitVec 32 := 1#32
  let arg8 : BitVec 32 := Scf.iv c0_i32_16 c1_i32_18 k0_t2
  let c512_i32 : BitVec 32 := 512#32
  let v41 : BitVec 32 := Scalar.muli arg8 c512_i32
  let v42 : BitVec 32 := v41
  let v43 : Index := Scalar.indexCast v42
  let c0_30 : Index := 0#32
  ![0, v43.toNat, 0]
def k0_off4 (k0_t2 : Fin k0_t2_loop.trips) : Fin 4 → Nat :=
  let c0_37 : Index := 0#32
  let c0_i32_16 : BitVec 32 := 0#32
  let c1_i32_18 : BitVec 32 := 1#32
  let arg8 : BitVec 32 := Scf.iv c0_i32_16 c1_i32_18 k0_t2
  let v63 : Index := Scalar.indexCast arg8
  let c0_38 : Index := 0#32
  let c0_39 : Index := 0#32
  ![0, v63.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Mixing.lean ====
abbrev S8x2048x512 : Shape := ⟨3, ![8, 2048, 512]⟩
abbrev S8x2048x3328 : Shape := ⟨3, ![8, 2048, 3328]⟩
abbrev S8x2048x1024 : Shape := ⟨3, ![8, 2048, 1024]⟩
abbrev S32x6x1024 : Shape := ⟨3, ![32, 6, 1024]⟩
abbrev S2x1x128 : Shape := ⟨3, ![2, 1, 128]⟩
abbrev S2x1024x1024 : Shape := ⟨3, ![2, 1024, 1024]⟩
abbrev S2x1x1024 : Shape := ⟨3, ![2, 1, 1024]⟩
abbrev S2x1024x128 : Shape := ⟨3, ![2, 1024, 128]⟩
abbrev S512x512 : Shape := ⟨2, ![512, 512]⟩
abbrev S8x2048x128 : Shape := ⟨3, ![8, 2048, 128]⟩
abbrev S1x128 : Shape := ⟨2, ![1, 128]⟩
abbrev S1x512x512 : Shape := ⟨3, ![1, 512, 512]⟩
abbrev S1x512x1024 : Shape := ⟨3, ![1, 512, 1024]⟩
abbrev S1x6x1024 : Shape := ⟨3, ![1, 6, 1024]⟩
abbrev S1x1x128 : Shape := ⟨3, ![1, 1, 128]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1x1024 : Shape := ⟨2, ![1, 1024]⟩
abbrev S1024x128 : Shape := ⟨2, ![1024, 128]⟩
abbrev S128 : Shape := ⟨1, ![128]⟩

abbrev nBuf : Space → Nat
  | .hbm => 16
  | .vmem => 26
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x3328, .bf16⟩
  | .hbm, ⟨3, _⟩ => ⟨S8x2048x512, .bf16⟩
  | .hbm, ⟨4, _⟩ => ⟨S8x2048x1024, .f32⟩
  | .hbm, ⟨5, _⟩ => ⟨S32x6x1024, .f32⟩
  | .hbm, ⟨6, _⟩ => ⟨S2x1x128, .f32⟩
  | .hbm, ⟨7, _⟩ => ⟨S2x1024x1024, .bf16⟩
  | .hbm, ⟨8, _⟩ => ⟨S2x1x1024, .f32⟩
  | .hbm, ⟨9, _⟩ => ⟨S2x1024x128, .f32⟩
  | .hbm, ⟨10, _⟩ => ⟨S2x1x128, .f32⟩
  | .hbm, ⟨11, _⟩ => ⟨S512x512, .bf16⟩
  | .hbm, ⟨12, _⟩ => ⟨S8x2048x1024, .f32⟩
  | .hbm, ⟨13, _⟩ => ⟨S8x2048x1024, .f32⟩
  | .hbm, ⟨14, _⟩ => ⟨S8x2048x128, .f32⟩
  | .hbm, ⟨15, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1x128, .f32⟩
  | .local _ .vmem, ⟨13, _⟩ => ⟨S1x1024x1024, .bf16⟩
  | .local _ .vmem, ⟨14, _⟩ => ⟨S1x1x1024, .f32⟩
  | .local _ .vmem, ⟨15, _⟩ => ⟨S1x1024x128, .f32⟩
  | .local _ .vmem, ⟨16, _⟩ => ⟨S1x1x128, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x128, .f32⟩
  | .local _ .vmem, ⟨23, _⟩ => ⟨S1x512x128, .f32⟩
  | .local _ .vmem, ⟨24, _⟩ => ⟨S1x128, .f32⟩
  | .local _ .vmem, ⟨25, _⟩ => ⟨S1x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== MixedIdeal.lean ====
abbrev S8x2048x512 : Shape := ⟨3, ![8, 2048, 512]⟩
abbrev S8x2048x3328 : Shape := ⟨3, ![8, 2048, 3328]⟩
abbrev S8x2048x1024 : Shape := ⟨3, ![8, 2048, 1024]⟩
abbrev S32x6x1024 : Shape := ⟨3, ![32, 6, 1024]⟩
abbrev S2x1x128 : Shape := ⟨3, ![2, 1, 128]⟩
abbrev S2x1024x1024 : Shape := ⟨3, ![2, 1024, 1024]⟩
abbrev S2x1x1024 : Shape := ⟨3, ![2, 1, 1024]⟩
abbrev S2x1024x128 : Shape := ⟨3, ![2, 1024, 128]⟩
abbrev S512x512 : Shape := ⟨2, ![512, 512]⟩
abbrev S8x2048x4x128 : Shape := ⟨4, ![8, 2048, 4, 128]⟩
abbrev S1x1x128 : Shape := ⟨3, ![1, 1, 128]⟩
abbrev S128 : Shape := ⟨1, ![128]⟩
abbrev S_ : Shape := ⟨0, ![]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x3328, .bf16⟩
  | .hbm, ⟨3, _⟩ => ⟨S8x2048x512, .bf16⟩
  | .hbm, ⟨4, _⟩ => ⟨S8x2048x1024, .f32⟩
  | .hbm, ⟨5, _⟩ => ⟨S32x6x1024, .f32⟩
  | .hbm, ⟨6, _⟩ => ⟨S2x1x128, .f32⟩
  | .hbm, ⟨7, _⟩ => ⟨S2x1024x1024, .bf16⟩
  | .hbm, ⟨8, _⟩ => ⟨S2x1x1024, .f32⟩
  | .hbm, ⟨9, _⟩ => ⟨S2x1024x128, .f32⟩
  | .hbm, ⟨10, _⟩ => ⟨S2x1x128, .f32⟩
  | .hbm, ⟨11, _⟩ => ⟨S512x512, .bf16⟩
  | .hbm, ⟨12, _⟩ => ⟨S8x2048x512, .f32⟩
  | .hbm, ⟨13, _⟩ => ⟨S8x2048x512, .f32⟩
  | .hbm, ⟨14, _⟩ => ⟨S8x2048x512, .f32⟩
  | .hbm, ⟨15, _⟩ => ⟨S8x2048x4x128, .f32⟩
  | .hbm, ⟨16, _⟩ => ⟨S1x1x128, .f32⟩
  | .hbm, ⟨17, _⟩ => ⟨S128, .f32⟩
  | .hbm, ⟨18, _⟩ => ⟨S8x2048x4x128, .f32⟩
  | .hbm, ⟨19, _⟩ => ⟨S_, .f32⟩
  | .hbm, ⟨20, _⟩ => ⟨S8x2048x4, .f32⟩
  | .hbm, ⟨21, _⟩ => ⟨S8x2048x4x1, .f32⟩
  | .hbm, ⟨22, _⟩ => ⟨S_, .f32⟩
  | .hbm, ⟨23, _⟩ => ⟨S8x2048x4x1, .f32⟩
  | .hbm, ⟨24, _⟩ => ⟨S8x2048x4x1, .f32⟩
  | .hbm, ⟨25, _⟩ => ⟨S_, .f32⟩
  | .hbm, ⟨26, _⟩ => ⟨S8x2048x4x1, .f32⟩
  | .hbm, ⟨27, _⟩ => ⟨S8x2048x4x1, .f32⟩
  | .hbm, ⟨28, _⟩ => ⟨S8x2048x4x1, .f32⟩
  | .hbm, ⟨29, _⟩ => ⟨S8x2048x4x128, .f32⟩
  | .hbm, ⟨30, _⟩ => ⟨S8x2048x4x128, .f32⟩
  | .hbm, ⟨31, _⟩ => ⟨S1x1x1x128, .f32⟩
  | .hbm, ⟨32, _⟩ => ⟨S8x2048x4x128, .f32⟩
  | .hbm, ⟨33, _⟩ => ⟨S8x2048x4x128, .f32⟩
  | .hbm, ⟨34, _⟩ => ⟨S8x2048x512, .bf16⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S_, .f32⟩
  | .hbm, ⟨39, _⟩ => ⟨S8x2048x512, .f32⟩
  | .hbm, ⟨40, _⟩ => ⟨S8x2048x512, .f32⟩
  | .hbm, ⟨41, _⟩ => ⟨S_, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x4x128, .f32⟩
  | .hbm, ⟨46, _⟩ => ⟨S8x2048x4x128, .f32⟩
  | .hbm, ⟨47, _⟩ => ⟨S8x2048x512, .f32⟩
  | .hbm, ⟨48, _⟩ => ⟨S8x2048x512, .f32⟩
  | .hbm, ⟨49, _⟩ => ⟨S8x2048x1024, .f32⟩
  | .hbm, ⟨50, _⟩ => ⟨S1x1024x1024, .bf16⟩
  | .hbm, ⟨51, _⟩ => ⟨S1024x1024, .bf16⟩
  | .hbm, ⟨52, _⟩ => ⟨S1024x1024, .f32⟩
  | .hbm, ⟨53, _⟩ => ⟨S8x2048x1024, .f32⟩
  | .hbm, ⟨54, _⟩ => ⟨S8x1x1024, .f32⟩
  | .hbm, ⟨55, _⟩ => ⟨S8x1024, .f32⟩
  | .hbm, ⟨56, _⟩ => ⟨S8x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S8x1x1024, .f32⟩
  | .hbm, ⟨79, _⟩ => ⟨S8x1024, .f32⟩
  | .hbm, ⟨80, _⟩ => ⟨S8x1x1024, .f32⟩
  | .hbm, ⟨81, _⟩ => ⟨S_, .f32⟩
  | .hbm, ⟨82, _⟩ => ⟨S8x1x1024, .f32⟩
  | .hbm, ⟨83, _⟩ => ⟨S8x1x1024, .f32⟩
  | .hbm, ⟨84, _⟩ => ⟨S8x2048x1024, .f32⟩
  | .hbm, ⟨85, _⟩ => ⟨S8x2048x1024, .f32⟩
  | .hbm, ⟨86, _⟩ => ⟨S8x1x1024, .f32⟩
  | .hbm, ⟨87, _⟩ => ⟨S8x1024, .f32⟩
  | .hbm, ⟨88, _⟩ => ⟨S8x1x1024, .f32⟩
  | .hbm, ⟨89, _⟩ => ⟨S8x2048x1024, .f32⟩
  | .hbm, ⟨90, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.ValueIdx
public import Idealize.ShloMosaic.Lib.Writes
public import Idealize.ShloMosaic.Lib.WritesUnit
public import Idealize.ShloMosaic.Lib.Tactic
public import Idealize.ShloMosaic.Lib.WordCmp

@[expose] public section

set_option maxRecDepth 16384

noncomputable section

/-! # One grid point of the routed feed-forward kernel

What the kernel's body leaves in its output block, for any contents of the four tables that keep its reads inside
their buffers: the rows of the token block that the tables name, through the expert's two-layer network, or zeros. -/

namespace Cert.KernelIdeal.Routed

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tables as the body is handed them: the experts, the valid flags, the first positions, the sorted tokens. -/
abbrev expertTab : Memref sig .tc .smem S320 .i32 := Memref.whole main_arg2
abbrev validTab : Memref sig .tc .smem S320 .i32 := Memref.whole main_arg3
abbrev firstTab : Memref sig .tc .smem S320 .i32 := Memref.whole main_arg4
abbrev tokenTab : Memref sig .tc .smem S32896 .i32 := Memref.whole main_arg1

/-- A table held for reading only. -/
abbrev tab (c : Dev nD) {S : Shape} (M : Memref sig .tc .smem S .i32) (f : Buf (Elt F) (M.view.loc (c : Thread nD τ))) : sProp 𝕄 :=
  M.view.loc (c : Thread nD τ) ↦{fullShare.right} f

/-- The token of row `r` of tile `t`: the sorted tokens' word `r` places after the tile's first position. -/
def token (first : S320.Idx → BitVec 32) (tok : S32896.Idx → BitVec 32) (t : Fin 320) (r : ℕ) : Fin 4096 :=
  Fin.ofNat 4096 (tok (ix1 (Fin.ofNat 32896 ((first (ix1 t)).toNat + r)))).toNat

/-- The rows a tile gathers from its block of tokens. -/
def gathered (first : S320.Idx → BitVec 32) (tok : S32896.Idx → BitVec 32) (t : Fin 320)
    (x0 : Vec F S1x4096x1024 .f32) : Vec F S128x1024 .f32 :=
  fun y => x0 (ix3 0 (token first tok t (y 0).val) (y 1))

/-- What the body leaves in its output block at tile `t`. -/
def result (valid first : S320.Idx → BitVec 32) (tok : S32896.Idx → BitVec 32) (t : Fin 320)
    (x0 : Vec F S1x4096x1024 .f32) (x1 x2 : Vec F S1x1024x512 .bf16) (x3 : Vec F S1x512x1024 .bf16) : Vec F S128x1024 .f32 :=
  if valid (ix1 t) = 0#32 then k0_pay3 else k0_pay2 (gathered first tok t x0) x1 x2 x3

/-- The tables keep the body's reads inside their buffers. -/
structure Fits (first : S320.Idx → BitVec 32) (tok : S32896.Idx → BitVec 32) : Prop where
  first_le : ∀ j, (first j).toNat ≤ 32768
  tok_lt : ∀ j, (tok j).toNat < 4096

theorem cond1_iff (v : BitVec 32) : k0_cond1 v = 1#1 ↔ v ≠ 0#32 := by
  unfold k0_cond1; by_cases h : v = 0#32
  · simp [h, Scalar.cmpi, Scalar.extui, IntOp.cmpi]
  · simp [h, Scalar.cmpi, Scalar.extui, IntOp.cmpi, beq_eq_false_iff_ne.2 h, bne]

theorem cond2_iff (v : BitVec 32) : k0_cond2 v = 1#1 ↔ v = 0#32 := by
  unfold k0_cond2; by_cases h : v = 0#32
  · simp [h, Scalar.cmpi, Scalar.extui, IntOp.cmpi]
  · simp [h, Scalar.cmpi, Scalar.extui, IntOp.cmpi, beq_eq_false_iff_ne.2 h, bne]

theorem off1_val (i : grid0.Coords) : (k0_off1 i 0) + 1 * 0 = (i 0).val := by
  have h : (i 0).val < 320 := (i 0).isLt
  simp [k0_off1, Scalar.indexCast]
  omega

theorem off3_eq (v : BitVec 32) (h : v.toNat ≤ 32768) (k : Fin k0_t1_loop.trips) :
    k0_off3 v k = ![v.toNat + k.val] := by
  have hk : k.val < 128 := k.isLt
  simp [k0_off3, Scalar.addi, Scalar.indexCast, Scf.iv, IntOp.addi, BitVec.toNat_add]
  omega

theorem off4_eq (v : BitVec 32) : k0_off4 v = ![0, v.toNat, 0] := by
  simp [k0_off4, Scalar.indexCast]

theorem off5_eq (k : Fin k0_t1_loop.trips) : k0_off5 k = ![k.val, 0] := by
  have hk : k.val < 128 := k.isLt
  simp [k0_off5, Scalar.indexCast, Scf.iv]
  omega

theorem chk1_of (v w : BitVec 32) (h : w.toNat ≤ 32768) : k0_chk1 v w := fun k _ a => by
  have hk : k.val < 128 := k.isLt
  rw [off3_eq w h]; fin_cases a
  show w.toNat + k.val + 1 ≤ 32896
  omega

theorem chk2_of (v w : BitVec 32) (h : w.toNat < 4096) : k0_chk2 v w := fun _ a => by
  rw [off4_eq]; fin_cases a
  · show 0 + 1 ≤ 1; omega
  · show w.toNat + 1 ≤ 4096; omega
  · show 0 + 1024 ≤ 1024; omega

theorem pay1_at (v : Vec F S1x1x1024 .f32) (y : S1x1024.Idx) : k0_pay1 v y = v (ix3 0 0 (y 1)) := by
  unfold k0_pay1
  show shapeCast S1x1024 (shapeCast S1x1024 v _) _ y = _
  rw [shapeCast_self]
  refine (shapeCast_dropUnit_apply ![1, 1024] v _ y).trans (congrArg v (funext fun a => ?_))
  fin_cases a
  · rfl
  · exact Subsingleton.elim (α := Fin 1) _ _
  · rfl

theorem zero2 : (![0, 0] : Fin 2 → ℕ) = 0 := by decide
theorem zero3 : (![0, 0, 0] : Fin 3 → ℕ) = 0 := by decide

theorem whole_write (v : View sig .tc .vmem S128x1024 .f32) (f : v.ty.Contents (Elt F)) (w : Vec F S128x1024 .f32) :
    v.read (Elt F) (v.writes (Elt F) f
      [(⟨Rect.unit ![0, 0] S128x1024.size inb_S128x1024_S128x1024_0_0, w⟩ : View.Piece (Elt F) S128x1024 .f32)]) = w :=
  funext fun y => View.read_writes_cons_unit_of_mem v f _ _ [] y y zero2 fun _ => (Nat.zero_add _).symm

/-- The row of the token block that a word names. -/
theorem row_idx (w : BitVec 32) (inb : ∀ a, k0_off4 w a + S1x1x1024.size a ≤ S1x4096x1024.size a) (n : Fin 4096) (q : Fin 1024)
    (hw : w.toNat < 4096) (h : Fin.ofNat 4096 w.toNat = n) :
    (Rect.unit (s := S1x4096x1024) (k0_off4 w) S1x1x1024.size inb).emb (ix3 0 0 q) = ix3 0 n q := by
  subst h
  refine Rect.emb_eq_of_coords _ _ _ fun a => ?_
  refine Eq.trans ?_ (congrArg (· + 1 * (ix3 (0 : Fin 1) (0 : Fin 1) q a).val) (congrFun (off4_eq w) a)).symm
  fin_cases a
  · rfl
  · show w.toNat % 4096 = w.toNat + 1 * 0
    omega
  · show q.val = 0 + 1 * q.val
    omega

/-- The sorted position that a trip of the gathering loop reads. -/
theorem token_idx (v : BitVec 32) (hv : v.toNat ≤ 32768) (k : Fin k0_t1_loop.trips)
    (inb : ∀ a, k0_off3 v k a + S1.size a ≤ S32896.size a) (h : 0 < S1.numel) :
    (Rect.unit (s := S32896) (k0_off3 v k) S1.size inb).emb (Shape.Idx.first h) = ix1 (Fin.ofNat 32896 (v.toNat + k.val)) := by
  have hk : k.val < 128 := k.isLt
  refine Rect.emb_eq_of_coords _ _ _ fun a => ?_
  refine Eq.trans ?_ (congrArg (· + 1 * (Shape.Idx.first h a).val) (congrFun (off3_eq v hv k) a)).symm
  fin_cases a
  show (v.toNat + k.val) % 32896 = v.toNat + k.val + 1 * 0
  omega

section Body

variable (c : Dev nD) (arg5 : Memref sig .tc .vmem S1x4096x1024 .f32) (harg5 : arg5.IsWhole)
  (arg10 : Memref sig .tc .vmem S128x1024 .f32)
  (xt3 : Buf (Elt F) (tokenTab.view.loc (c : Thread nD τ)))
  (x0 : Vec F S1x4096x1024 .f32)

/-- Before trip `n` of the gathering loop: the tokens and their block as they were, the first `n` scratch rows the rows
    gathered so far. -/
def gathering (G : Vec F S128x1024 .f32) (n : ℕ) (_ : PUnit) : sProp 𝕄 :=
  iprop(tab c tokenTab xt3 ∗ (arg5.view.loc (c : Thread nD τ) ↦[arg5.view.set]{fullShare} harg5.unread x0)
    ∗ (∃ f, ⌜∀ y : S128x1024.Idx, (y 0).val < n → arg10.view.read (Elt F) f y = G y⌝
        ∗ (arg10.view.loc (c : Thread nD τ) ↦[arg10.view.set]{fullShare} f)))

end Body

set_option maxHeartbeats 1000000 in
theorem body (c : Dev nD) (i : grid0.Coords) (arg5 : Memref sig .tc .vmem S1x4096x1024 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S128x1024 .f32) (harg9 : arg9.IsWhole) (arg10 : Memref sig .tc .vmem S128x1024 .f32) (harg10 : arg10.IsWhole)
    (x0 : Vec F S1x4096x1024 .f32) (x1 : Vec F S1x1024x512 .bf16) (x2 : Vec F S1x1024x512 .bf16) (x3 : Vec F S1x512x1024 .bf16)
    (xt0 : Buf (Elt F) (expertTab.view.loc (c : Thread nD τ))) (xt1 : Buf (Elt F) (validTab.view.loc (c : Thread nD τ)))
    (xt2 : Buf (Elt F) (firstTab.view.loc (c : Thread nD τ))) (xt3 : Buf (Elt F) (tokenTab.view.loc (c : Thread nD τ)))
    (hfit : Fits xt2 xt3) (E : Set ℕ) (K : PUnit → sProp 𝕄) :
    iprop(owns (c : Thread nD τ) arg5 fullShare x0 ∗ owns (c : Thread nD τ) arg6 fullShare x1 ∗ owns (c : Thread nD τ) arg7 fullShare x2
        ∗ owns (c : Thread nD τ) arg8 fullShare x3 ∗ (∃ d, owns (c : Thread nD τ) arg9 fullShare d) ∗ (∃ d, owns (c : Thread nD τ) arg10 fullShare d)
        ∗ tab c expertTab xt0 ∗ tab c validTab xt1 ∗ tab c firstTab xt2 ∗ tab c tokenTab xt3
        ∗ (iprop(owns (c : Thread nD τ) arg5 fullShare x0 ∗ owns (c : Thread nD τ) arg6 fullShare x1 ∗ owns (c : Thread nD τ) arg7 fullShare x2
            ∗ owns (c : Thread nD τ) arg8 fullShare x3 ∗ owns (c : Thread nD τ) arg9 fullShare (result xt1 xt2 xt3 (i 0) x0 x1 x2 x3)
            ∗ (∃ d, owns (c : Thread nD τ) arg10 fullShare d)
            ∗ tab c expertTab xt0 ∗ tab c validTab xt1 ∗ tab c firstTab xt2 ∗ tab c tokenTab xt3) -∗ K ⟨⟩))
      ⊢ wp frame (wpE (defs₀ (F := F)) Variants.none c none) E
          (cc0_routed_expert_ffn i expertTab (Memref.isWhole_whole _) validTab (Memref.isWhole_whole _) firstTab (Memref.isWhole_whole _)
            tokenTab (Memref.isWhole_whole _) arg5 harg5 arg6 harg6 arg7 harg7 arg8 harg8 arg9 harg9 arg10 harg10) K := by
  simp only [cc0_routed_expert_ffn_eq_skeleton]; unfold cc0_routed_expert_ffn_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, HT3, Hk⟩
  obtain rfl := harg5.eq_unread hf0; obtain rfl := harg6.eq_unread hf1; obtain rfl := harg7.eq_unread hf2; obtain rfl := harg8.eq_unread hf3
  have hword : validTab.view.readAt (Elt F) (Rect.unit (s := S320) (k0_off1 i) S1.size (k0_off1_inb i)).toLoadRect xt1 (Shape.Idx.first (show 0 < S1.numel by decide)) = xt1 (ix1 (i 0)) :=
    congrArg xt1 (funext fun a => by fin_cases a; exact Fin.ext (off1_val i))
  have hfirst : firstTab.view.readAt (Elt F) (Rect.unit (s := S320) (k0_off2 i) S1.size (k0_off2_inb i)).toLoadRect xt2 (Shape.Idx.first (show 0 < S1.numel by decide)) = xt2 (ix1 (i 0)) :=
    congrArg xt2 (funext fun a => by fin_cases a; exact Fin.ext (off1_val i))
  by_cases hv : xt1 (ix1 (i 0)) = 0#32
  · have hc1 : ¬ k0_cond1 (validTab.view.readAt (Elt F) (Rect.unit (s := S320) (k0_off1 i) S1.size (k0_off1_inb i)).toLoadRect xt1 (Shape.Idx.first (show 0 < S1.numel by decide))) = 1#1 := by
      rw [hword, cond1_iff]; exact fun h => h hv
    have hc2 : k0_cond2 (validTab.view.readAt (Elt F) (Rect.unit (s := S320) (k0_off6 i) S1.size (k0_off6_inb i)).toLoadRect xt1 (Shape.Idx.first (show 0 < S1.numel by decide))) = 1#1 :=
      (cond2_iff _).2 (hword.trans hv)
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap
      · iexact H4
      ipureintro
      exact (whole_write _ _ _).trans (if_pos hv).symm
    isplitl [HS0]
    · iexists _, fs0; isplitr; · ipureintro; rfl
      iexact HS0
    isplitl [HT0]
    · iexact HT0
    isplitl [HT1]
    · iexact HT1
    isplitl [HT2]
    · iexact HT2
    iexact HT3
  · have hc1 : k0_cond1 (validTab.view.readAt (Elt F) (Rect.unit (s := S320) (k0_off1 i) S1.size (k0_off1_inb i)).toLoadRect xt1 (Shape.Idx.first (show 0 < S1.numel by decide))) = 1#1 := by
      rw [hword, cond1_iff]; exact hv
    have hc2 : ¬ k0_cond2 (validTab.view.readAt (Elt F) (Rect.unit (s := S320) (k0_off6 i) S1.size (k0_off6_inb i)).toLoadRect xt1 (Shape.Idx.first (show 0 < S1.numel by decide))) = 1#1 :=
      fun h => hv (hword.symm.trans ((cond2_iff _).1 h))
    have hk1 : ∀ v j, k0_chk1 v (firstTab.view.readAt (Elt F) (Rect.unit (s := S320) (k0_off2 i) S1.size (k0_off2_inb i)).toLoadRect xt2 j) := fun v j => chk1_of _ _ (hfit.first_le _)
    have hk2 : ∀ v B j, k0_chk2 v (tokenTab.view.readAt (Elt F) B xt3 j) := fun v B j => chk2_of _ _ (hfit.tok_lt _)
    sl_exec
    sl_for (gathering c arg5 harg5 arg10 xt3 x0 (gathered xt2 xt3 (i 0) x0)) $$ [HT3 H0 HS0]
    case region =>
      intro k a
      unfold gathering
      iintro ⟨HT3, H0, ⟨%f, %hf, HS0⟩⟩
      sl_exec
      sl_step
      isplitl [HT3]
      · iexact HT3
      isplitl [H0]
      · iexact H0
      iexists _
      isplitr
      swap
      · iexact HS0
      ipureintro
      intro y hy
      have hk : k.val < 128 := k.isLt
      have hw : body.sl.r_3 c i xt2 = xt2 (ix1 (i 0)) := hfirst
      by_cases hy' : (y 0).val < k.val
      · refine (View.read_writes_cons_unit_of_not_mem arg10.view f _ _ [] y (off5_eq k) 0 (Or.inl hy')).trans ?_
        exact hf y hy'
      · have hyk : (y 0).val = k.val := by omega
        refine (View.read_writes_cons_unit_of_mem arg10.view f _ _ [] y (ix2 0 (y 1)) (off5_eq k) ?_).trans ?_
        · intro a
          fin_cases a
          · exact hyk
          · exact (Nat.zero_add _).symm
        · refine (pay1_at _ _).trans ?_
          sl_unfold_words
          rw [View.readAt_eq_ld, harg5.read_unread]
          refine congrArg x0 (row_idx _ _ _ (y 1) (hfit.tok_lt _) ?_)
          unfold token
          rw [hyk, ← hfirst]
          exact congrArg (fun n => Fin.ofNat 4096 (xt3 n).toNat) (token_idx _ (hfit.first_le _) k _ _)
    · unfold gathering
      isplitl [HT3]
      · iexact HT3
      isplitl [H0]
      · iexact H0
      iexists fs0
      isplitr
      · ipureintro; intro y hy; exact absurd hy (Nat.not_lt_zero _)
      · iexact HS0
    iintro %a HI
    unfold gathering
    icases HI with ⟨HT3, H0, ⟨%f, %hf, HS0⟩⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap
      · iexact H4
      ipureintro
      refine (whole_write _ _ _).trans ?_
      have hs : arg10.view.read (Elt F) f = gathered xt2 xt3 (i 0) x0 := funext fun y => hf y (y 0).isLt
      simp only [View.readAt_eq_ld, harg6.read_unread, harg7.read_unread, harg8.read_unread, hs,
        View.ld_unit_zero (S := S128x1024) zero2, View.ld_unit_zero (S := S1x1024x512) zero3, View.ld_unit_zero (S := S1x512x1024) zero3]
      exact (if_neg hv).symm
    isplitl [HS0]
    · iexists _, f; isplitr; · ipureintro; rfl
      iexact HS0
    isplitl [HT0]
    · iexact HT0
    isplitl [HT1]
    · iexact HT1
    isplitl [HT2]
    · iexact HT2
    iexact HT3

end Cert.KernelIdeal.Routed

end
-- ==== Proof.Run.lean ====
module

public import proofs.«01_k».proof.Proof.Body
public import Idealize.ShloMosaic.Lib.Claim

@[expose] public section

set_option maxRecDepth 16384

noncomputable section

/-! # The launch of the routed feed-forward kernel

The body's triple carried over the grid: from any launch memory whose tables keep every block and every read inside
its array, the run ends with the argument arrays as they were and the result assembled of the blocks that the body leaves. -/

namespace Cert.KernelIdeal.Routed

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The four tables as launched. -/
def tables : pre0.Contents (Elt F) := fun j => V m (0 : Dev nD) (pre0.ref j)

theorem V_tables (c : Dev nD) (j : Fin 4) : V m c (pre0.ref j) = tables m j := by
  obtain rfl : c = 0 := Subsingleton.elim _ _
  rfl

/-- What the tables are asked: every block that an expert's number selects lies inside its array, and every read that a
    position or a token selects lies inside its buffer. -/
structure Tame : Prop where
  blocks : ok0 (F := F) (tables m)
  reads : Fits (tables m 2) (tables m 3)

variable {m}

abbrev adm (hT : Tame m) : (pcfg0 (F := F)).Adm := ⟨tables m, hT.blocks⟩
abbrev cfgM (hT : Tame m) : Pipeline.Cfg sig Λ₀ := cfg0 (adm hT)

theorem tables_held (c : Dev nD) (v : pre0.Contents (Elt F)) : (Pipeline.ΦT pre0 v c : sProp 𝕄)
    = iprop(tab c expertTab (v 0) ∗ tab c validTab (v 1) ∗ tab c firstTab (v 2) ∗ tab c tokenTab (v 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem scratch_held (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]
  try rfl

/-- Window `w`'s block at grid point `t`. -/
def iblk (hT : Tame m) (c : Dev nD) (w : Fin (cfgM hT).W) (t : Fin (cfgM hT).N) :
    (((cfgM hT).win w).xblock ((cfgM hT).grid.coords t)).Idx → Elt F ((cfgM hT).win w).elt :=
  (((cfgM hT).win w).blk t).view.read (Elt F) (V m c (Pipeline.arrRef spec0 w))

/-- The output block at grid point `t`. -/
def oblk (hT : Tame m) (c : Dev nD) (t : Fin (cfgM hT).N) : Vec F S128x1024 .f32 :=
  result (tables m 1) (tables m 2) (tables m 3) (grid0.coords t 0) (iblk hT c 0 t) (iblk hT c 1 t) (iblk hT c 2 t) (iblk hT c 3 t)

/-- The run's data: the arrays as launched, each input's block left in place, the output's block written. -/
def dats (hT : Tame m) (_ : Fin 1) (c : Dev nD) : Dat τ (Elt F) Unit ℕ (UR sig nD τ) ℕ (cfgM hT) c where
  A w := V m c (Pipeline.arrRef spec0 w)
  after w t := match w with
    | ⟨0, _⟩ => iblk hT c 0 t
    | ⟨1, _⟩ => iblk hT c 1 t
    | ⟨2, _⟩ => iblk hT c 2 t
    | ⟨3, _⟩ => iblk hT c 3 t
    | ⟨4, _⟩ => oblk hT c t
  Φ _ := iprop(Pipeline.ΦA spec0 c ∗ Pipeline.ΦT pre0 (tables m) c)
  q _ := fullShare
  owed _ := 0

theorem A_eq (hT : Tame m) (c : Dev nD) (w : Fin (cfgM hT).W) : (dats hT 0 c).A w = V m c (Pipeline.arrRef spec0 w) := by
  dsimp only [dats]

theorem after0 (hT : Tame m) (c : Dev nD) (t : Fin (cfgM hT).N) : (dats hT 0 c).after 0 t = iblk hT c 0 t := by dsimp only [dats]; rfl
theorem after1 (hT : Tame m) (c : Dev nD) (t : Fin (cfgM hT).N) : (dats hT 0 c).after 1 t = iblk hT c 1 t := by dsimp only [dats]; rfl
theorem after2 (hT : Tame m) (c : Dev nD) (t : Fin (cfgM hT).N) : (dats hT 0 c).after 2 t = iblk hT c 2 t := by dsimp only [dats]; rfl
theorem after3 (hT : Tame m) (c : Dev nD) (t : Fin (cfgM hT).N) : (dats hT 0 c).after 3 t = iblk hT c 3 t := by dsimp only [dats]; rfl
theorem after4 (hT : Tame m) (c : Dev nD) (t : Fin (cfgM hT).N) : (dats hT 0 c).after 4 t = oblk hT c t := by dsimp only [dats]; rfl

/-- Each input's staging buffer holds its block when the body runs, fetched at that point or carried from the one before. -/
theorem before0 (hT : Tame m) (c : Dev nD) (t : Fin (cfgM hT).N) (d) : (dats hT 0 c).before 0 t d = iblk hT c 0 t :=
  ((dats hT 0 c).before_in_eq_fetched 0 rfl (fun _ => rfl) (fun _ _ _ => rfl)
    (fun t => by rw [after0]; unfold Dat.blockOf iblk; rw [A_eq]) t d).trans
    (by unfold Dat.fetched Dat.blockOf iblk; rw [A_eq]; rfl)
theorem before1 (hT : Tame m) (c : Dev nD) (t : Fin (cfgM hT).N) (d) : (dats hT 0 c).before 1 t d = iblk hT c 1 t :=
  ((dats hT 0 c).before_in_eq_fetched 1 rfl (fun _ => rfl) (fun _ _ _ => rfl)
    (fun t => by rw [after1]; unfold Dat.blockOf iblk; rw [A_eq]) t d).trans
    (by unfold Dat.fetched Dat.blockOf iblk; rw [A_eq]; rfl)
theorem before2 (hT : Tame m) (c : Dev nD) (t : Fin (cfgM hT).N) (d) : (dats hT 0 c).before 2 t d = iblk hT c 2 t :=
  ((dats hT 0 c).before_in_eq_fetched 2 rfl (fun _ => rfl) (fun _ _ _ => rfl)
    (fun t => by rw [after2]; unfold Dat.blockOf iblk; rw [A_eq]) t d).trans
    (by unfold Dat.fetched Dat.blockOf iblk; rw [A_eq]; rfl)
theorem before3 (hT : Tame m) (c : Dev nD) (t : Fin (cfgM hT).N) (d) : (dats hT 0 c).before 3 t d = iblk hT c 3 t :=
  ((dats hT 0 c).before_in_eq_fetched 3 rfl (fun _ => rfl) (fun _ _ _ => rfl)
    (fun t => by rw [after3]; unfold Dat.blockOf iblk; rw [A_eq]) t d).trans
    (by unfold Dat.fetched Dat.blockOf iblk; rw [A_eq]; rfl)

/-! ## The body at a grid point -/

abbrev st0 (hT : Tame m) (t : Fin (cfgM hT).N) : Memref sig .tc .vmem S1x4096x1024 .f32 := spec0_0.stage ((cfgM hT).slots t 0)
abbrev st1 (hT : Tame m) (t : Fin (cfgM hT).N) : Memref sig .tc .vmem S1x1024x512 .bf16 := spec0_1.stage ((cfgM hT).slots t 1)
abbrev st2 (hT : Tame m) (t : Fin (cfgM hT).N) : Memref sig .tc .vmem S1x1024x512 .bf16 := spec0_2.stage ((cfgM hT).slots t 2)
abbrev st3 (hT : Tame m) (t : Fin (cfgM hT).N) : Memref sig .tc .vmem S1x512x1024 .bf16 := spec0_3.stage ((cfgM hT).slots t 3)
abbrev st4 (hT : Tame m) (t : Fin (cfgM hT).N) : Memref sig .tc .vmem S128x1024 .f32 := spec0_4.stage ((cfgM hT).slots t 4)

/-- The body as the pipeline calls it at point `t`. -/
abbrev bodyAt (hT : Tame m) (t : Fin (cfgM hT).N) : Prog (TpuEff nD τ sig (Elt F) Λ₀ .tc) PUnit :=
  cc0_routed_expert_ffn (grid0.coords t) expertTab (Memref.isWhole_whole _) validTab (Memref.isWhole_whole _) firstTab (Memref.isWhole_whole _) tokenTab (Memref.isWhole_whole _)
    (st0 hT t) (hstage0_0 (((cfgM hT).slots t 0).cast nbuf0_0)) (st1 hT t) (hstage0_1 (((cfgM hT).slots t 1).cast nbuf0_1))
    (st2 hT t) (hstage0_2 (((cfgM hT).slots t 2).cast nbuf0_2)) (st3 hT t) (hstage0_3 (((cfgM hT).slots t 3).cast nbuf0_3))
    (st4 hT t) (hstage0_4 (((cfgM hT).slots t 4).cast nbuf0_4)) (Memref.whole cc0_scratch0) (Memref.isWhole_whole _)

/-- What the body is called with at point `t`. -/
def bodyPre (hT : Tame m) (c : Dev nD) (t : Fin (cfgM hT).N) : sProp 𝕄 :=
  iprop((dats hT 0 c).Φ t.castSucc ∗ (dats hT 0 c).owesAt () t.castSucc
    ∗ (∃ d, owns (c : Thread nD τ) (st0 hT t) fullShare ((dats hT 0 c).before 0 t d))
    ∗ (∃ d, owns (c : Thread nD τ) (st1 hT t) fullShare ((dats hT 0 c).before 1 t d))
    ∗ (∃ d, owns (c : Thread nD τ) (st2 hT t) fullShare ((dats hT 0 c).before 2 t d))
    ∗ (∃ d, owns (c : Thread nD τ) (st3 hT t) fullShare ((dats hT 0 c).before 3 t d))
    ∗ (∃ d, owns (c : Thread nD τ) (st4 hT t) fullShare ((dats hT 0 c).before 4 t d)))

/-- What the body hands back at point `t`. -/
def bodyPost (hT : Tame m) (c : Dev nD) (t : Fin (cfgM hT).N) : sProp 𝕄 :=
  iprop((dats hT 0 c).Φ t.succ ∗ (dats hT 0 c).owesAt () t.succ
    ∗ owns (c : Thread nD τ) (st0 hT t) fullShare ((dats hT 0 c).after 0 t)
    ∗ owns (c : Thread nD τ) (st1 hT t) fullShare ((dats hT 0 c).after 1 t)
    ∗ owns (c : Thread nD τ) (st2 hT t) fullShare ((dats hT 0 c).after 2 t)
    ∗ owns (c : Thread nD τ) (st3 hT t) fullShare ((dats hT 0 c).after 3 t)
    ∗ owns (c : Thread nD τ) (st4 hT t) fullShare ((dats hT 0 c).after 4 t))

theorem body_at (hT : Tame m) (c : Dev nD) (t : Fin (cfgM hT).N) :
    bodyPre hT c t ⊢ wp frame (wpE (defs₀ (F := F)) Variants.none c none) Set.univ (bodyAt hT t) (fun _ => bodyPost hT c t) := by
  unfold bodyPre bodyPost bodyAt
  simp only [before0, before1, before2, before3]
  rw [show (dats hT 0 c).Φ t.succ = (dats hT 0 c).Φ t.castSucc from rfl,
    show (dats hT 0 c).owesAt () t.succ = (dats hT 0 c).owesAt () t.castSucc from rfl, after0, after1, after2, after3, after4]
  rw [show (dats hT 0 c).Φ t.castSucc = iprop(Pipeline.ΦA spec0 c ∗ Pipeline.ΦT pre0 (tables m) c) from rfl, tables_held, scratch_held]
  iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
  iapply (body c (grid0.coords t) _ _ _ _ _ _ _ _ _ _ _ _ (iblk hT c 0 t) (iblk hT c 1 t) (iblk hT c 2 t) (iblk hT c 3 t)
    (tables m 0) (tables m 1) (tables m 2) (tables m 3) hT.reads Set.univ _)
  isplitl [H0]; · iexact H0
  isplitl [H1]; · iexact H1
  isplitl [H2]; · iexact H2
  isplitl [H3]; · iexact H3
  isplitl [H4]; · iexists _; iexact H4
  isplitl [HS0]; · iexact HS0
  isplitl [HT0]; · iexact HT0
  isplitl [HT1]; · iexact HT1
  isplitl [HT2]; · iexact HT2
  isplitl [HT3]; · iexact HT3
  iintro ⟨H0, H1, H2, H3, H4, HS0, HT0, HT1, HT2, HT3⟩
  isplitl [HS0 Hg HT0 HT1 HT2 HT3]
  · isplitl [HS0 Hg]
    · isplitl [HS0]
      · iexact HS0
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

theorem defs₀_row (hT : Tame m) (t : Fin (cfgM hT).N) :
    defs₀ (F := F) .tc (cfgM hT).body ((cfgM hT).bodyArgs t ((cfgM hT).slots t)) = bodyAt hT t := by
  unfold defs₀; rw [Defs.onTc_tc]

/-- The output's block is written back at every point: its index is the point's. -/
theorem flush4 (a : (pcfg0 (F := F)).Adm) (t : Fin (cfg0 a).N) : ((cfg0 a).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

theorem body_obligation (hT : Tame m) (c : Dev nD) :
    BodyObligation (dats (F := F) hT 0 c) (defs₀ (F := F)) Variants.none () Set.univ := fun t => by
  rw [bigSep_W0, bigSep_W0, defs₀_row hT]
  refine triple_restated (body_at hT c t) rfl .rfl fun _ => ?_
  dsimp only
  split
  · split
    · rename_i h
      exact absurd ((flush4 (adm hT) t).symm.trans h) (by decide)
    · show bodyPost hT c t ⊢ bodyPost hT c t
      iintro H; iexact H
  · show bodyPost hT c t ⊢ bodyPost hT c t
    iintro H; iexact H

-- the launch theorem's implicit arguments are found by unifying its conclusion with this one
set_option backward.isDefEq.respectTransparency.types false in
/-- The run: it ends, the arrays at what the blocks written back make of them, the other buffers as launched, every
    semaphore at zero. -/
theorem run (hT : Tame m) : θ_run defs (onTc (τ := τ) (main (F := F))) (s₀ m ρ)
    (fun r => Pipeline.FramePost (Pipeline.pin pcfgs fun _ => adm hT) (dats hT) 0 (V m) r ∧ r.2.sem = fun _ => 0) :=
  Pipeline.θ_run_frameP (Q' := _) pcfgs (fun _ => adm hT) (dats hT) (0 : Fin 1) launch0 defs₀ Variants.none m ρ main
    (hbody := fun c => (body_obligation hT c).loose) (hshare := fun c => (dats hT 0 c).share_full fun _ => rfl)
    (howed := fun _ _ => rfl) (V := V m) (hmain := hmain m Variants.none) (hA := A_eq hT) (hpf := V_tables m) (hΦ := fun _ _ => rfl)

/-- The run with its result: the argument arrays end as launched, the result array at its blocks. -/
theorem run_blocks (hT : Tame m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v0) = (dats hT 0 c).arrAt 4 (cfgM hT).N)
      ∧ r.2.sem = fun _ => 0) :=
  (θ_run defs _ _).mono (fun _ h => ⟨fun c => ⟨⟨((h.1 c).1 0).trans (((dats hT 0 c).arrAt_in 0 rfl _).trans (A_eq hT c 0)),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1 c).2 main_arg4 (by decide : main_arg4 ∈ Pipeline.restRefs sig spec0),
      ((h.1 c).1 1).trans (((dats hT 0 c).arrAt_in 1 rfl _).trans (A_eq hT c 1)),
      ((h.1 c).1 2).trans (((dats hT 0 c).arrAt_in 2 rfl _).trans (A_eq hT c 2)),
      ((h.1 c).1 3).trans (((dats hT 0 c).arrAt_in 3 rfl _).trans (A_eq hT c 3))⟩, (h.1 c).1 4⟩, h.2⟩) (run ρ hT)

end Cert.KernelIdeal.Routed

end
-- ==== Proof.KernelRun.lean ====
module

public import proofs.«01_k».proof.Proof.Run
public import proofs.«01_k».proof.Defs
public import proofs.«01_k».proof.Proof.Gen.Kernel.Launch

@[expose] public section

set_option maxRecDepth 16384

noncomputable section

/-! # The kernel on machine numbers

No operation was rewritten, so the printed kernel and its idealized form are one text: their bodies, grids and definitions are
equal. The run, proved for any float values, is therefore the kernel's run too. -/

namespace Cert.Kernel.Routed
open Idealize.ShloMosaic Idealize.ShloMosaic.TcCoe
open Idealize.SL Idealize.SL.Sem

theorem body_eq : @Cert.Kernel.cc0_routed_expert_ffn Bits _ _ = @Cert.KernelIdeal.cc0_routed_expert_ffn Bits _ _ := by
  unfold Cert.Kernel.cc0_routed_expert_ffn Cert.KernelIdeal.cc0_routed_expert_ffn
  rfl
theorem pcfg_eq : Cert.Kernel.pcfgs (F := Bits) = Cert.KernelIdeal.pcfgs (F := Bits) := rfl
theorem defs0_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact body_eq ▸ rfl

theorem defs_eq : Cert.Kernel.defs (F := Bits) = Cert.KernelIdeal.defs (F := Bits) := by
  unfold Cert.Kernel.defs Cert.KernelIdeal.defs
  exact congrArg (Pipeline.defs Cert.KernelIdeal.pcfgs) defs0_eq

/-- A kernel whose tables are tame runs, and leaves its arguments alone and its counters at zero. -/
theorem frame (m : (ℓ : Loc Cert.Kernel.nD Cert.Kernel.τ Cert.Kernel.sig) → Buf (Elt Bits) ℓ) (g : Dev Cert.Kernel.nD → PrngReg)
    (hT : Cert.KernelIdeal.Routed.Tame (F := Bits) m) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_eq]
  exact (θ_run (Cert.KernelIdeal.defs (F := Bits)) _ _).mono (fun _ h => ⟨fun c => (h.1 c).1, h.2⟩) (Cert.KernelIdeal.Routed.run_blocks (m := m) g hT)

end Cert.Kernel.Routed

end
-- ==== Proof.Tables.lean ====
module

public import proofs.«01_k».proof.Proof.Run
public import proofs.«01_k».proof.Pre_routing_tables
public import proofs.«01_k».proof.Proof.Gen.Pre_routing_tables
public import Idealize.ShloMosaic.Lib.ReduceAll
public import Idealize.ShloMosaic.Lib.Affine
public import Idealize.ShloMosaic.Lib.Pointwise

@[expose] public section

noncomputable section

/-! # What the precondition says of the tables

The experts are below 16, the first positions at most 32768, the sorted tokens below 4096; so every block that an
expert's number selects and every read of the body lies inside its array. -/

namespace Cert.KernelIdeal.Routed

open Cert.KernelIdeal Cert.KernelIdeal.Gen
open Idealize.ShloMosaic hiding ix1 ix2 ix3
open Idealize.ShloMosaic.TcCoe Idealize.ShloMosaic.ValueIdx

/-- The ranges that the precondition gives the tables. -/
structure InRange (tok : S32896.Idx → BitVec 32) (expert first : S320.Idx → BitVec 32) : Prop where
  expert_lt : ∀ i, (expert i).toNat < 16
  first_le : ∀ i, (first i).toNat ≤ 32768
  tok_lt : ∀ i, (tok i).toNat < 4096

/-- A word that is not negative as a signed one is its unsigned value. -/
theorem toInt_of_nonneg (w : BitVec 32) (h0 : IntOp.cmpi .sge w 0#32 = 1#1) : w.toInt = w.toNat := by
  rw [WordCmp.cmpi_sge_eq, WordCmp.ofBool_decide_eq_one_iff, BitVec.toInt_zero] at h0
  have := BitVec.toInt_eq_toNat_cond w
  split at this <;> omega

theorem toNat_lt (w : BitVec 32) (n : ℕ) (hn : n < 2 ^ 31) (h0 : IntOp.cmpi .sge w 0#32 = 1#1)
    (h1 : IntOp.cmpi .slt w (BitVec.ofNat 32 n) = 1#1) : w.toNat < n := by
  rw [WordCmp.cmpi_slt_eq, WordCmp.ofBool_decide_eq_one_iff, toInt_of_nonneg w h0, WordCmp.toInt_ofNat_of_lt hn] at h1
  omega

theorem toNat_le (w : BitVec 32) (n : ℕ) (hn : n < 2 ^ 31) (h0 : IntOp.cmpi .sge w 0#32 = 1#1)
    (h1 : IntOp.cmpi .sle w (BitVec.ofNat 32 n) = 1#1) : w.toNat ≤ n := by
  rw [WordCmp.cmpi_sle_eq, WordCmp.ofBool_decide_eq_one_iff, toInt_of_nonneg w h0, WordCmp.toInt_ofNat_of_lt hn] at h1
  omega

instance : Subsingleton Cert.Pre_routing_tables.S_.Idx := ⟨fun _ _ => funext fun a => a.elim0⟩

variable {F : FTy → Type} [FloatOps F]

/-- The precondition, read. -/
theorem inRange (x0 : FVec F S4x4096x1024 .f32) (x1 : IVec S32896 32) (x2 x3 x4 : IVec S320 32)
    (x5 x6 : FVec F S32x1024x512 .bf16) (x7 : FVec F S32x512x1024 .bf16)
    (h : Cert.Pre_routing_tables.fn (F := F) x0 x1 x2 x3 x4 x5 x6 x7 = fun _ => 1#1) : InRange x1 x2 x4 := by
  have h0 := congrFun h (Shape.Idx.first Cert.Pre_routing_tables.Gen.facts.h_S_)
  dsimp only [Cert.Pre_routing_tables.fn, Cert.Pre_routing_tables.fn_part1] at h0
  obtain ⟨h1, htok⟩ := IntOp.andi_eq_one.1 h0
  obtain ⟨hexp, hfst⟩ := IntOp.andi_eq_one.1 h1
  refine ⟨fun i => ?_, fun i => ?_, fun i => ?_⟩
  · obtain ⟨a, b⟩ := IntOp.andi_eq_one.1 (Host.reduce_andi_all _ _ _ _ _ hexp i)
    exact toNat_lt _ 16 (by decide) a b
  · obtain ⟨a, b⟩ := IntOp.andi_eq_one.1 (Host.reduce_andi_all _ _ _ _ _ hfst i)
    exact toNat_le _ 32768 (by decide) a b
  · obtain ⟨a, b⟩ := IntOp.andi_eq_one.1 (Host.reduce_andi_all _ _ _ _ _ htok i)
    exact toNat_lt _ 4096 (by decide) a b

/-- The block index that an expert's number gives. -/
theorem expert_block (pf : pre0.Contents (Elt F)) (i : grid0.Coords) :
    cc0_transform_1 k0_off1_inb numel1_S1 pf i = ![BitVec.toNat (pf 0 (ix1 (i 0))), 0, 0] := by
  have hw : pf.at 0 (Rect.unit (s := S320) (k0_off1 i) S1.size (k0_off1_inb i)) numel1_S1 = pf 0 (ix1 (i 0)) :=
    congrArg (pf 0) (funext fun a => by fin_cases a; exact Fin.ext (off1_val i))
  exact (congrArg (fun w : BitVec 32 => ![BitVec.toNat (0#32 + w), 0, 0]) hw).trans
    (congrArg (fun w : BitVec 32 => ![w.toNat, 0, 0]) (BitVec.zero_add _))

variable (m : (ℓ : Loc nD τ sig) → Buf (Elt F) ℓ)

/-- In range, the tables are tame. -/
theorem tame (h : InRange (tables m 3) (tables m 0) (tables m 2)) : Tame m where
  blocks := by
    have hb (i : grid0.Coords) : BitVec.toNat (tables m 0 (ix1 (i 0))) < 16 := h.expert_lt _
    have up : ∀ i a, (cc0_transform_1 k0_off1_inb numel1_S1 (tables m) i a + 1) * S1x1024x512.size a ≤ S32x1024x512.size a := fun i a => by
      rw [expert_block]
      have := hb i
      fin_cases a
      · show (BitVec.toNat (tables m 0 (ix1 (i 0))) + 1) * 1 ≤ 32; omega
      · show (0 + 1) * 1024 ≤ 1024; omega
      · show (0 + 1) * 512 ≤ 512; omega
    have down : ∀ i a, (cc0_transform_3 k0_off1_inb numel1_S1 (tables m) i a + 1) * S1x512x1024.size a ≤ S32x512x1024.size a := fun i a => by
      refine le_of_eq_of_le (congrArg (fun f : Fin 3 → ℕ => (f a + 1) * S1x512x1024.size a) (expert_block (tables m) i)) ?_
      have := hb i
      fin_cases a
      · show (BitVec.toNat (tables m 0 (ix1 (i 0))) + 1) * 1 ≤ 32; omega
      · show (0 + 1) * 512 ≤ 512; omega
      · show (0 + 1) * 1024 ≤ 1024; omega
    exact ⟨fun i => ⟨up i, .inr (.inr ⟨by decide, rfl, rfl, rfl⟩)⟩, fun i => ⟨up i, .inr (.inr ⟨by decide, rfl, rfl, rfl⟩)⟩,
      fun i => ⟨down i, .inr (.inr ⟨by decide, rfl, rfl, rfl⟩)⟩⟩
  reads := ⟨h.first_le, h.tok_lt⟩

end Cert.KernelIdeal.Routed

end
-- ==== Proof.Spec.lean ====
module

public import Idealize.ShloMosaic.Lib.Pointwise
public import Idealize.ShloMosaic.PureOps.Ideal

@[expose] public section

noncomputable section

/-! # The routed feed-forward layer, at one element -/

namespace Cert.Routed

open Idealize.ShloMosaic

/-- The tokens of the four segments, the two weights that widen a token, the weight that narrows it, for 32 experts each;
    the tables of the 320 tiles and the sorted tokens. -/
abbrev Tokens := (⟨3, ![4, 4096, 1024]⟩ : Shape).Idx → EReal
abbrev Widen := (⟨3, ![32, 1024, 512]⟩ : Shape).Idx → EReal
abbrev Narrow := (⟨3, ![32, 512, 1024]⟩ : Shape).Idx → EReal
abbrev TileTable := (⟨1, ![320]⟩ : Shape).Idx → BitVec 32
abbrev Sorted := (⟨1, ![32896]⟩ : Shape).Idx → BitVec 32

/-- A token of a segment against column `f` of an expert's weight. -/
def wide (h : Tokens) (w : Widen) (s : Fin 4) (e : Fin 32) (n : Fin 4096) (f : Fin 512) : EReal :=
  ∑ d : Fin 1024, h (ix3 s n d) * w (ix3 e d f)

/-- A number weighted by the logistic function of itself. -/
def swish (g : EReal) : EReal := g * Ideal.div 1 (1 + Ideal.exp (-g))

/-- Column `j` of what expert `e` makes of token `n` of segment `s`. -/
def expertOut (h : Tokens) (wg wu : Widen) (wd : Narrow) (s : Fin 4) (e : Fin 32) (n : Fin 4096) (j : Fin 1024) : EReal :=
  ∑ f : Fin 512, swish (wide h wg s e n f) * wide h wu s e n f * wd (ix3 e f j)

/-- The segment that tile `t` lies in. -/
def segmentOf (t : Fin 320) : Fin 4 := ⟨t.val / 80, by omega⟩

/-- The expert of tile `t`. -/
def expertOf (expert : TileTable) (t : Fin 320) : Fin 32 := Fin.ofNat 32 (expert (ix1 t)).toNat

/-- The token of row `r` of tile `t`. -/
def tokenOf (first : TileTable) (tok : Sorted) (t : Fin 320) (r : ℕ) : Fin 4096 :=
  Fin.ofNat 4096 (tok (ix1 (Fin.ofNat 32896 ((first (ix1 t)).toNat + r)))).toNat

/-- Row `r`, column `j` of tile `t`. -/
def tileOut (h : Tokens) (tok : Sorted) (expert valid first : TileTable) (wg wu : Widen) (wd : Narrow) (t : Fin 320) (r : Fin 128)
    (j : Fin 1024) : EReal :=
  if valid (ix1 t) = 0#32 then 0
  else expertOut h wg wu wd (segmentOf t) (expertOf expert t) (tokenOf first tok t r.val) j

/-- Row `r` of tile `t` in the result. -/
def row (t : Fin 320) (r : Fin 128) : Fin 40960 := ⟨128 * t.val + r.val, by omega⟩

end Cert.Routed

end
-- ==== Proof.Block.lean ====
module

public import proofs.«01_k».proof.Proof.Body
public import proofs.«01_k».proof.Proof.Spec

@[expose] public section

set_option maxRecDepth 16384

noncomputable section

/-! # What the kernel's body leaves in its block, at one element -/

namespace Cert.KernelIdeal.Routed

open Cert.KernelIdeal Cert.KernelIdeal.Gen Cert.Routed
open Idealize.ShloMosaic

theorem ofBits_one : Ideal.ofBits .f32 0x3F800000#32 = 1 := by
  simp [Ideal.ofBits, Ideal.ieee, -EReal.coe_mul]
  norm_num

/-- The rows of a tile against column `f` of a weight. -/
def wideBlock (x : S128x1024.Idx → EReal) (w : S1x1024x512.Idx → EReal) (r : Fin 128) (f : Fin 512) : EReal :=
  ∑ d : Fin 1024, x (ix2 r d) * w (ix3 0 d f)

theorem ffn_at (x : S128x1024.Idx → EReal) (x1 x2 : S1x1024x512.Idx → EReal) (x3 : S1x512x1024.Idx → EReal)
    (r : Fin 128) (j : Fin 1024) :
    k0_pay2 (F := Ideal) x x1 x2 x3 (ix2 r j)
      = ∑ f : Fin 512, swish (wideBlock x x1 r f) * wideBlock x x2 r f * x3 (ix3 0 f j) := by
  pointwise [k0_pay2, ofBits_one, swish, wideBlock, zero_sub]

end Cert.KernelIdeal.Routed

end
-- ==== Proof.Array.lean ====
module

public import proofs.«01_k».proof.Proof.Tables
public import proofs.«01_k».proof.Proof.Block
public import Idealize.ShloMosaic.Lib.Pipeline.ValueKit

@[expose] public section

set_option maxRecDepth 16384

noncomputable section

/-! # What the kernel leaves in its result array, at one element -/

namespace Cert.KernelIdeal.Routed

open Cert.KernelIdeal Cert.KernelIdeal.Gen Cert.Routed
open Idealize.ShloMosaic Idealize.ShloMosaic.TcCoe
open Idealize.ShloMosaic.Pipeline (Dat)

variable {m : (ℓ : Loc nD τ sig) → Buf (Elt Ideal) ℓ}

/-- Tile `t`'s grid point. -/
def point (hT : Tame m) (t : Fin 320) : Fin (cfgM hT).N := ⟨t.val, t.isLt⟩

theorem coords_val : ∀ t : Fin 320, (grid0.coords ⟨t.val, t.isLt⟩ 0).val = t.val := by decide +kernel
theorem coords_point (t : Fin 320) : grid0.coords ⟨t.val, t.isLt⟩ 0 = t := Fin.ext (coords_val t)

/-- The segment's block that each grid point reads, and the block it writes. -/
theorem fixed_blocks : ∀ t : Fin 320, cc0_transform_0 (grid0.coords ⟨t.val, t.isLt⟩) = ![t.val / 80, 0, 0]
    ∧ cc0_transform_4 (grid0.coords ⟨t.val, t.isLt⟩) = ![t.val, 0] := by decide +kernel

theorem index0 (hT : Tame m) (t : Fin 320) : ((cfgM hT).win 0).index (point hT t) = ![t.val / 80, 0, 0] := (fixed_blocks t).1
theorem index4 (hT : Tame m) (t : Fin 320) : ((cfgM hT).win 4).index (point hT t) = ![t.val, 0] := (fixed_blocks t).2

theorem expert_index (t : Fin 320) :
    cc0_transform_1 k0_off1_inb numel1_S1 (tables m) (grid0.coords ⟨t.val, t.isLt⟩)
      = ![BitVec.toNat (tables m 0 (ix1 t)), 0, 0] :=
  (expert_block (tables m) _).trans
    (congrArg (fun s : Fin 320 => ![BitVec.toNat (tables m 0 (ix1 s)), 0, 0]) (coords_point t))

theorem index1 (hT : Tame m) (t : Fin 320) :
    ((cfgM hT).win 1).index (point hT t) = ![BitVec.toNat (tables m 0 (ix1 t)), 0, 0] := expert_index t
theorem index2 (hT : Tame m) (t : Fin 320) :
    ((cfgM hT).win 2).index (point hT t) = ![BitVec.toNat (tables m 0 (ix1 t)), 0, 0] := expert_index t
theorem index3 (hT : Tame m) (t : Fin 320) :
    ((cfgM hT).win 3).index (point hT t) = ![BitVec.toNat (tables m 0 (ix1 t)), 0, 0] := expert_index t

variable (c : Dev nD)

/-- The arrays as the kernel is given them. -/
abbrev tokens : Tokens := m ((c : Thread nD τ).loc main_arg0)
abbrev gateW : Widen := m ((c : Thread nD τ).loc main_arg5)
abbrev upW : Widen := m ((c : Thread nD τ).loc main_arg6)
abbrev downW : Narrow := m ((c : Thread nD τ).loc main_arg7)

theorem token_block (hT : Tame m) (t : Fin 320) (n : Fin 4096) (d : Fin 1024) :
    iblk hT c 0 (point hT t) (ix3 0 n d) = m ((c : Thread nD τ).loc main_arg0) (ix3 (segmentOf t) n d) := by
  have h := index0 hT t
  blk_ext [iblk, V, h, segmentOf]

theorem expertOf_val (t : Fin 320) (h16 : BitVec.toNat (tables m 0 (ix1 t)) < 16) :
    (expertOf (tables m 0) t).val = BitVec.toNat (tables m 0 (ix1 t)) :=
  Nat.mod_eq_of_lt (by omega)

theorem gate_block (hT : Tame m) (t : Fin 320) (d : Fin 1024) (f : Fin 512) (h16 : BitVec.toNat (tables m 0 (ix1 t)) < 16) :
    iblk hT c 1 (point hT t) (ix3 0 d f) = m ((c : Thread nD τ).loc main_arg5) (ix3 (expertOf (tables m 0) t) d f) := by
  have h := index1 hT t
  have e := expertOf_val t h16
  blk_ext [iblk, V, h, e]

theorem up_block (hT : Tame m) (t : Fin 320) (d : Fin 1024) (f : Fin 512) (h16 : BitVec.toNat (tables m 0 (ix1 t)) < 16) :
    iblk hT c 2 (point hT t) (ix3 0 d f) = m ((c : Thread nD τ).loc main_arg6) (ix3 (expertOf (tables m 0) t) d f) := by
  have h := index2 hT t
  have e := expertOf_val t h16
  blk_ext [iblk, V, h, e]

theorem down_block (hT : Tame m) (t : Fin 320) (f : Fin 512) (j : Fin 1024) (h16 : BitVec.toNat (tables m 0 (ix1 t)) < 16) :
    iblk hT c 3 (point hT t) (ix3 0 f j) = m ((c : Thread nD τ).loc main_arg7) (ix3 (expertOf (tables m 0) t) f j) := by
  have h := index3 hT t
  have e := expertOf_val t h16
  blk_ext [iblk, V, h, e]

/-- The block index, at any point. -/
theorem index4_at (hT : Tame m) (t : Fin (cfgM hT).N) : ((cfgM hT).win 4).index t = ![t.val, 0] := index4 hT ⟨t.val, t.isLt⟩

/-- The points' output blocks share no element: tile `t`'s is block `t`. -/
theorem disjoint4 (hT : Tame m) (t t' : Fin (cfgM hT).N) (h : ((cfgM hT).win 4).index t = ((cfgM hT).win 4).index t') : t = t' := by
  have e := (index4_at hT t).symm.trans (h.trans (index4_at hT t'))
  exact Fin.ext (congrFun e 0)

theorem disjoint4_set (hT : Tame m) (t t' : Fin (cfgM hT).N) (h : ((cfgM hT).win 4).flush t = true)
    (h' : ((cfgM hT).win 4).flush t' = true) (hne : t ≠ t') :
    Disjoint (((cfgM hT).win 4).blk t).view.set (((cfgM hT).win 4).blk t').view.set :=
  Pipeline.Window.hdisj_of_index_inj ((cfgM hT).win 4) (fun t t' _ _ => disjoint4 hT t t') t t' h h' hne

theorem array_read (hT : Tame m) (t : Fin (cfgM hT).N) :
    (((cfgM hT).win 4).blk t).view.read (Elt Ideal) ((dats hT 0 c).arrAt 4 (cfgM hT).N) = (dats hT 0 c).flushed 4 t :=
  (dats hT 0 c).read_blk_arrAt_eq_flushed 4 (disjoint4_set hT) (cfgM hT).N t t.isLt (flush4 (adm hT) t)

theorem array_block (hT : Tame m) (t : Fin 320) (r : Fin 128) (j : Fin 1024) :
    (dats hT 0 c).arrAt 4 (cfgM hT).N (ix2 (row t r) j) = oblk hT c (point hT t) (ix2 r j) := by
  have e := congrFun (array_read c hT (point hT t)) (ix2 r j)
  have e' : (dats hT 0 c).flushed 4 (point hT t) (ix2 r j) = oblk hT c (point hT t) (ix2 r j) :=
    congrFun (after4 hT c (point hT t)) (ix2 r j)
  have h4 := index4 hT t
  refine Eq.trans ?_ (e.trans e')
  generalize (dats hT 0 c).arrAt 4 (cfgM hT).N = A
  refine congrArg A ?_
  blk_ext [row, h4]

/-- THE KERNEL at row `r`, column `j` of tile `t`. -/
theorem result_at (hT : Tame m) (t : Fin 320) (r : Fin 128) (j : Fin 1024) (he : ∀ i, BitVec.toNat (tables m 0 i) < 16) :
    (dats hT 0 c).arrAt 4 (cfgM hT).N (ix2 (row t r) j)
      = tileOut (tokens (m := m) c) (tables m 3) (tables m 0) (tables m 1) (tables m 2) (gateW (m := m) c) (upW (m := m) c) (downW (m := m) c) t r j := by
  refine (array_block c hT t r j).trans ?_
  unfold oblk result
  rw [show grid0.coords (point hT t) 0 = t from coords_point t]
  unfold tileOut
  by_cases hv : tables m 1 (ix1 t) = 0#32
  · refine (congrFun (if_pos hv) (ix2 r j)).trans ((if_pos hv).trans ?_).symm
    exact (Ideal.ofBits_zero .f32).symm
  · refine (congrFun (if_neg hv) (ix2 r j)).trans (Eq.trans ?_ (if_neg hv).symm)
    refine (ffn_at _ _ _ _ r j).trans (Finset.sum_congr rfl fun f _ => ?_)
    have g : wideBlock (gathered (tables m 2) (tables m 3) t (iblk hT c 0 (point hT t))) (iblk hT c 1 (point hT t)) r f
        = wide (tokens (m := m) c) (gateW (m := m) c) (segmentOf t) (expertOf (tables m 0) t) (tokenOf (tables m 2) (tables m 3) t r.val) f :=
      Finset.sum_congr rfl fun d _ => congrArg₂ (· * ·) (token_block c hT t _ d) (gate_block c hT t d f (he _))
    have u : wideBlock (gathered (tables m 2) (tables m 3) t (iblk hT c 0 (point hT t))) (iblk hT c 2 (point hT t)) r f
        = wide (tokens (m := m) c) (upW (m := m) c) (segmentOf t) (expertOf (tables m 0) t) (tokenOf (tables m 2) (tables m 3) t r.val) f :=
      Finset.sum_congr rfl fun d _ => congrArg₂ (· * ·) (token_block c hT t _ d) (up_block c hT t d f (he _))
    exact congrArg₂ (· * ·) (congrArg₂ (fun a b => swish a * b) g u) (down_block c hT t f j (he _))

end Cert.KernelIdeal.Routed

end
-- ==== Proof.Ref.lean ====
module

public import proofs.«01_k».proof.Proof.Gen.ReferenceIdeal.Read
public import proofs.«01_k».proof.Proof.Spec

@[expose] public section

set_option maxRecDepth 16384

noncomputable section

/-! # What the reference computes, at one element -/

namespace Cert.ReferenceIdeal.Routed

open Cert.ReferenceIdeal Cert.ReferenceIdeal.Gen Cert.ReferenceIdeal.Read Cert.Routed
open Idealize.ShloMosaic Idealize.SL.Sem

theorem ix2_val0 {n k : ℕ} (t : Fin n) (r : Fin k) (X : Fin 2) (h : X = 0) : (ix2 t r X).val = t.val := by subst h; rfl
theorem ix2_val1 {n k : ℕ} (t : Fin n) (r : Fin k) (X : Fin 2) (h : X = 1) : (ix2 t r X).val = r.val := by subst h; rfl
theorem ix3_val0 {n k l : ℕ} (t : Fin n) (r : Fin k) (j : Fin l) (X : Fin 3) (h : X = 0) : (ix3 t r j X).val = t.val := by subst h; rfl
theorem ix3_val1 {n k l : ℕ} (t : Fin n) (r : Fin k) (j : Fin l) (X : Fin 3) (h : X = 1) : (ix3 t r j X).val = r.val := by subst h; rfl
theorem ix3_val2 {n k l : ℕ} (t : Fin n) (r : Fin k) (j : Fin l) (X : Fin 3) (h : X = 2) : (ix3 t r j X).val = j.val := by subst h; rfl

abbrev takeTokens := gather_S32896_S320x128x1_S320x128_n_0_n_n_0_2_1
abbrev takeRows := gather_S16x4x4096x1024_S320x128x3_S320x128x1024_2_012_n_n_012_2_1111024

theorem takeTokens_index (t : Fin 320) (r : Fin 128) (c : Fin takeTokens.startIndexMap.length) :
    takeTokens.siIdx (ix2 t r) c = ix3 t r 0 := by
  have hc : c.val < 1 := c.isLt
  funext b
  refine Fin.ext ?_
  fin_cases b
  · unfold GatherDims.siIdx
    rw [dif_neg (by decide)]
    unfold GatherDims.siCoord
    exact ix2_val0 t r _ (by decide)
  · unfold GatherDims.siIdx
    rw [dif_neg (by decide)]
    unfold GatherDims.siCoord
    exact ix2_val1 t r _ (by decide)
  · unfold GatherDims.siIdx
    rw [dif_pos (by decide)]
    show c.val = 0
    omega

theorem takeRows_index (t : Fin 320) (r : Fin 128) (j : Fin 1024) (c : Fin takeRows.startIndexMap.length) :
    takeRows.siIdx (ix3 t r j) c = ix3 t r ⟨c.val, c.isLt⟩ := by
  funext b
  refine Fin.ext ?_
  fin_cases b
  · unfold GatherDims.siIdx
    rw [dif_neg (by decide)]
    unfold GatherDims.siCoord
    exact ix3_val0 t r j _ (by decide)
  · unfold GatherDims.siIdx
    rw [dif_neg (by decide)]
    unfold GatherDims.siCoord
    exact ix3_val1 t r j _ (by decide)
  · unfold GatherDims.siIdx
    rw [dif_pos (by decide)]
    rfl

/-- The gather of the sorted tokens, read: the position signed and kept inside the table. -/
theorem gather_tokens (x : S32896.Idx → BitVec 32) (idx : IVec S320x128x1 32) (t : Fin 320) (r : Fin 128)
    (w : BitVec 32) (hw : idx (ix3 t r 0) = w) :
    Host.gather takeTokens x idx (ix2 t r) = x (ix1 ⟨min w.toInt.toNat 32895, by omega⟩) := by
  subst hw
  unfold Host.gather
  refine congrArg x (funext fun a => ?_)
  obtain rfl : a = 0 := Subsingleton.elim _ _
  refine Fin.ext ?_
  show takeTokens.start (ix2 t r) idx 0 + takeTokens.batchCoord (ix2 t r) 0 + takeTokens.offCoord (ix2 t r) 0 = _
  rw [takeTokens.batchCoord_eq_zero _ _ (by decide), takeTokens.offCoord_eq_zero _ _ (by decide)]
  unfold GatherDims.start
  rw [dif_pos (by decide), takeTokens_index]
  rfl

/-- The gather of the rows, read: expert, segment and token signed and kept inside the array. -/
theorem gather_rows (x : S16x4x4096x1024.Idx → EReal) (idx : IVec S320x128x3 32) (t : Fin 320) (r : Fin 128) (j : Fin 1024)
    (w0 w1 w2 : BitVec 32) (h0 : idx (ix3 t r 0) = w0) (h1 : idx (ix3 t r 1) = w1) (h2 : idx (ix3 t r 2) = w2) :
    Host.gather takeRows x idx (ix3 t r j)
      = x (ix4 ⟨min w0.toInt.toNat 15, by omega⟩ ⟨min w1.toInt.toNat 3, by omega⟩ ⟨min w2.toInt.toNat 4095, by omega⟩ j) := by
  subst h0 h1 h2
  unfold Host.gather
  refine congrArg x (funext fun a => Fin.ext ?_)
  show takeRows.start (ix3 t r j) idx a + takeRows.batchCoord (ix3 t r j) a + takeRows.offCoord (ix3 t r j) a = _
  fin_cases a
  · rw [takeRows.batchCoord_eq_zero _ _ (by decide), takeRows.offCoord_eq_zero _ _ (by decide)]
    unfold GatherDims.start
    rw [dif_pos (by decide), takeRows_index]
    rfl
  · rw [takeRows.batchCoord_eq_zero _ _ (by decide), takeRows.offCoord_eq_zero _ _ (by decide)]
    unfold GatherDims.start
    rw [dif_pos (by decide), takeRows_index]
    rfl
  · rw [takeRows.batchCoord_eq_zero _ _ (by decide), takeRows.offCoord_eq_zero _ _ (by decide)]
    unfold GatherDims.start
    rw [dif_pos (by decide), takeRows_index]
    rfl
  · rw [takeRows.batchCoord_eq_zero _ _ (by decide)]
    unfold GatherDims.start GatherDims.offCoord
    rw [dif_neg (by decide), dif_pos (by decide)]
    refine (Nat.zero_add _).trans ?_
    exact ix3_val2 t r j _ (by decide)

end Cert.ReferenceIdeal.Routed

end
-- ==== Proof.RefValue.lean ====
module

public import proofs.«01_k».proof.Proof.Ref
public import Idealize.ShloMosaic.Lib.WordCmp

@[expose] public section

set_option maxRecDepth 16384

noncomputable section

/-! # The reference's result, at one element -/

namespace Cert.ReferenceIdeal.Routed

open Cert.ReferenceIdeal Cert.ReferenceIdeal.Gen Cert.ReferenceIdeal.Read Cert.Routed
open Idealize.ShloMosaic Idealize.SL.Sem

/-- An index below the middle of the words is not negative, so nothing is added to it … -/
theorem select_nonneg (w z : BitVec 32) (h : w.toNat < 2 ^ 31) : Scalar.select (IntOp.cmpi .slt w 0#32) z w = w := by
  have h0 : IntOp.cmpi .slt w 0#32 = 0#1 := by
    rw [WordCmp.cmpi_slt_eq, WordCmp.ofBool_decide_eq_zero_iff, BitVec.toInt_zero, WordCmp.toInt_eq_toNat_of_lt_half h]
    omega
  rw [h0]; rfl

/-- … and it is read as the number it is. -/
theorem toNat_toInt (w : BitVec 32) (h : w.toNat < 2 ^ 31) : w.toInt.toNat = w.toNat := by
  rw [WordCmp.toInt_eq_toNat_of_lt_half h]; rfl

variable (x0 : Tokens) (x1 : Sorted) (x2 x3 x4 : TileTable) (x5 x6 : Widen) (x7 : Narrow)

theorem ofBits_one : Ideal.ofBits .f32 0x3F800000#32 = 1 := by
  simp [Ideal.ofBits, Ideal.ieee, -EReal.coe_mul]
  norm_num

theorem gate_at (e : Fin 16) (s : Fin 4) (n : Fin 4096) (f : Fin 512) :
    val_main_v3 (F := Ideal) x0 x5 (ix4 e s n f) = wide x0 x5 s (e.castLE (by decide)) n f := by
  unfold val_main_v3 val_main_v2 val_main_v1 val_main_v0
  pointwise [wide]
  exact Finset.sum_congr rfl fun d _ => mul_comm _ _

theorem up_at (e : Fin 16) (s : Fin 4) (n : Fin 4096) (f : Fin 512) :
    val_main_v7 (F := Ideal) x0 x6 (ix4 e s n f) = wide x0 x6 s (e.castLE (by decide)) n f := by
  unfold val_main_v7 val_main_v6 val_main_v5 val_main_v4
  pointwise [wide]
  exact Finset.sum_congr rfl fun d _ => mul_comm _ _

/-- What every expert makes of every token. -/
theorem expert_at (e : Fin 16) (s : Fin 4) (n : Fin 4096) (j : Fin 1024) :
    val_main_v12 (F := Ideal) x0 x5 x6 x7 (ix4 e s n j) = expertOut x0 x5 x6 x7 s (e.castLE (by decide)) n j := by
  have eg := gate_at x0 x5 e s n
  have eu := up_at x0 x6 e s n
  unfold val_main_v12 val_main_v11 val_main_v10 val_main_v9 val_main_v8 val_main_call0_v5 val_main_call0_v4 val_main_call0_v3
    val_main_call0_v2 val_main_call0_v1 val_main_call0_v0 val_main_call0_cst val_main_call0_cst_0
  revert eg eu
  generalize val_main_v3 (F := Ideal) x0 x5 = G
  generalize val_main_v7 (F := Ideal) x0 x6 = U
  intro eg eu
  pointwise [expertOut, ofBits_one, swish]
  simp only [eg, eu]
  rfl

/-- The position that row `r` of tile `t` reads the sorted tokens at. -/
theorem position_at (t : Fin 320) (r : Fin 128) (h : (x4 (ix1 t)).toNat ≤ 32768) :
    val_main_v27 (F := Ideal) x4 (ix3 t r 0) = x4 (ix1 t) + BitVec.ofNat 32 r.val := by
  have e : val_main_v21 (F := Ideal) x4 (ix2 t r) = x4 (ix1 t) + BitVec.ofNat 32 r.val := by
    unfold val_main_v21 val_main_v20 val_main_v19 val_main_v18 val_main_v17 val_main_v16
    pointwise
    rfl
  have hs : (x4 (ix1 t) + BitVec.ofNat 32 r.val).toNat < 2 ^ 31 := by
    rw [BitVec.toNat_add, BitVec.toNat_ofNat]; omega
  unfold val_main_v27 val_main_v26 val_main_v25 val_main_v24 val_main_v23 val_main_v22 val_main_c val_main_c_0
  revert e
  generalize val_main_v21 (F := Ideal) x4 = P
  intro e
  pointwise
  rw [e]
  exact select_nonneg _ _ hs

/-- The token that row `r` of tile `t` reads. -/
theorem token_at (t : Fin 320) (r : Fin 128) (h : (x4 (ix1 t)).toNat ≤ 32768) (hr : (tokenOf x4 x1 t r.val).val = (x1 (ix1 (Fin.ofNat 32896 ((x4 (ix1 t)).toNat + r.val)))).toNat) :
    val_main_v50 (F := Ideal) x1 x4 (ix3 t r 0) = BitVec.ofNat 32 (tokenOf x4 x1 t r.val).val := by
  have hn : (tokenOf x4 x1 t r.val).val < 4096 := (tokenOf x4 x1 t r.val).isLt
  have e : val_main_v28 (F := Ideal) x1 x4 (ix2 t r) = BitVec.ofNat 32 (tokenOf x4 x1 t r.val).val := by
    unfold val_main_v28
    rw [gather_tokens _ _ t r _ (position_at x4 t r h)]
    rw [hr, BitVec.ofNat_toNat, BitVec.setWidth_eq]
    refine congrArg x1 (congrArg ix1 (Fin.ext ?_))
    have hs : (x4 (ix1 t) + BitVec.ofNat 32 r.val).toNat = (x4 (ix1 t)).toNat + r.val := by
      rw [BitVec.toNat_add, BitVec.toNat_ofNat]; omega
    show min (x4 (ix1 t) + BitVec.ofNat 32 r.val).toInt.toNat 32895 = ((x4 (ix1 t)).toNat + r.val) % 32896
    rw [toNat_toInt _ (by omega), hs]
    omega
  unfold val_main_v50 val_main_v45 val_main_v44 val_main_v43 val_main_v42 val_main_v41 val_main_c_5 val_main_c_6
  revert e
  generalize val_main_v28 (F := Ideal) x1 x4 = P
  intro e
  pointwise
  rw [e]
  exact select_nonneg _ _ (by rw [BitVec.toNat_ofNat]; omega)

theorem expert_index (t : Fin 320) (r : Fin 128) (h : (x2 (ix1 t)).toNat < 16) :
    val_main_v48 (F := Ideal) x2 (ix3 t r 0) = x2 (ix1 t) := by
  unfold val_main_v48 val_main_v46 val_main_v35 val_main_v34 val_main_v33 val_main_v32 val_main_v31 val_main_v29 val_main_c_1 val_main_c_2
  pointwise
  exact select_nonneg _ _ (by omega)

theorem segment_index (t : Fin 320) (r : Fin 128) :
    val_main_v49 (F := Ideal) (ix3 t r 0) = BitVec.ofNat 32 (segmentOf t).val := by
  unfold val_main_v49 val_main_v47 val_main_v40 val_main_v39 val_main_v38 val_main_v37 val_main_v36 val_main_v30 val_main_v15
    val_main_v14 val_main_v13 val_main_c_3 val_main_c_4
  pointwise [segmentOf]
  exact select_nonneg _ _ (by rw [BitVec.toNat_ofNat]; omega)

/-- The rows that the tiles gather. -/
theorem rows_at (t : Fin 320) (r : Fin 128) (j : Fin 1024) (he : ∀ i, (x2 i).toNat < 16) (hf : ∀ i, (x4 i).toNat ≤ 32768)
    (ht : ∀ i, (x1 i).toNat < 4096) :
    val_main_v52 (F := Ideal) x0 x1 x2 x4 x5 x6 x7 (ix3 t r j)
      = expertOut x0 x5 x6 x7 (segmentOf t) (expertOf x2 t) (tokenOf x4 x1 t r.val) j := by
  have hn : (tokenOf x4 x1 t r.val).val < 4096 := (tokenOf x4 x1 t r.val).isLt
  have hs : (segmentOf t).val < 4 := (segmentOf t).isLt
  have i0 := expert_index x2 t r (he _)
  have i1 := segment_index t r
  have i2 := token_at x1 x4 t r (hf _) (Nat.mod_eq_of_lt (ht _))
  have c0 : val_main_v51 (F := Ideal) x1 x2 x4 (ix3 t r 0) = x2 (ix1 t) := by
    rw [← i0]; unfold val_main_v51
    generalize val_main_v48 (F := Ideal) x2 = A
    generalize val_main_v49 (F := Ideal) = B
    generalize val_main_v50 (F := Ideal) x1 x4 = C
    pointwise
  have c1 : val_main_v51 (F := Ideal) x1 x2 x4 (ix3 t r 1) = BitVec.ofNat 32 (segmentOf t).val := by
    rw [← i1]; unfold val_main_v51
    generalize val_main_v48 (F := Ideal) x2 = A
    generalize val_main_v49 (F := Ideal) = B
    generalize val_main_v50 (F := Ideal) x1 x4 = C
    pointwise
  have c2 : val_main_v51 (F := Ideal) x1 x2 x4 (ix3 t r 2) = BitVec.ofNat 32 (tokenOf x4 x1 t r.val).val := by
    rw [← i2]; unfold val_main_v51
    generalize val_main_v48 (F := Ideal) x2 = A
    generalize val_main_v49 (F := Ideal) = B
    generalize val_main_v50 (F := Ideal) x1 x4 = C
    pointwise
  have he0 := he (ix1 t)
  unfold val_main_v52
  rw [gather_rows _ _ t r j _ _ _ c0 c1 c2, expert_at]
  congr 1
  · refine Fin.ext ?_
    show min (BitVec.ofNat 32 (segmentOf t).val).toInt.toNat 3 = _
    rw [toNat_toInt _ (by rw [BitVec.toNat_ofNat]; omega), BitVec.toNat_ofNat]; omega
  · refine Fin.ext ?_
    show min (x2 (ix1 t)).toInt.toNat 15 = (x2 (ix1 t)).toNat % 32
    rw [toNat_toInt _ (by omega)]; omega
  · refine Fin.ext ?_
    show min (BitVec.ofNat 32 (tokenOf x4 x1 t r.val).val).toInt.toNat 4095 = _
    rw [toNat_toInt _ (by rw [BitVec.toNat_ofNat]; omega), BitVec.toNat_ofNat]; omega

/-- THE REFERENCE at row `r`, column `j` of tile `t`. -/
theorem result_at (t : Fin 320) (r : Fin 128) (j : Fin 1024) (he : ∀ i, (x2 i).toNat < 16) (hf : ∀ i, (x4 i).toNat ≤ 32768)
    (ht : ∀ i, (x1 i).toNat < 4096) :
    val_main_v57 (F := Ideal) x0 x1 x2 x3 x4 x5 x6 x7 (ix2 (row t r) j) = tileOut x0 x1 x2 x3 x4 x5 x6 x7 t r j := by
  have e := rows_at x0 x1 x2 x4 x5 x6 x7 t r j he hf ht
  unfold tileOut
  rw [← e]
  unfold val_main_v57 val_main_v56 val_main_call1_v2 val_main_call1_v1 val_main_call1_v0 val_main_v55 val_main_v54 val_main_v53 val_main_c_7 val_main_cst
  generalize val_main_v52 (F := Ideal) x0 x1 x2 x4 x5 x6 x7 = R
  have e1 : (128 * t.val + r.val) / 128 = t.val := by omega
  have e2 : (128 * t.val + r.val) % 128 = r.val := by omega
  pointwise [row, e1, e2]
  by_cases h : x3 (ix1 t) = 0#32
  · rw [h, if_pos rfl]
    show Ideal.ofBits .f32 0x00000000#32 = 0
    exact Ideal.ofBits_zero .f32
  · have hb : IntOp.cmpi .ne (x3 (ix1 t)) 0#32 = 1#1 := by
      rw [WordCmp.cmpi_ne_eq, WordCmp.ofBool_decide_eq_one_iff]; exact h
    rw [hb, if_neg h]
    rfl

end Cert.ReferenceIdeal.Routed

end
-- ==== Proof.Layer.lean ====
module

public import proofs.«01_k».proof.Proof.KernelRun
public import proofs.«01_k».proof.Proof.Tables
public import proofs.«01_k».proof.Proof.Array
public import proofs.«01_k».proof.Proof.RefValue
public import proofs.«01_k».proof.Proof.Gen.Pre_routing_tables
public import Idealize.ShloMosaic.Lib.Quiescent

@[expose] public section

noncomputable section

/-! # The routed experts: the kernel and its reference, claim by claim

Every claim of the kernel starts from the same step: the tables that the precondition bounds name a block of every weight array
and a row of every segment, so the grid can be run. The value is then read off on both sides as `tileOut`. -/

namespace Cert.Proof.Layer

open Idealize.ShloMosaic Idealize.SL.Sem Cert.Routed

/-- The tables of a memory whose arguments satisfy the precondition are in range. -/
theorem ranged {F : FTy → Type} [FloatOps F]
    {m : (ℓ : Loc KernelIdeal.nD KernelIdeal.τ KernelIdeal.sig) → Buf (Elt F) ℓ}
    (h : ∀ c : Dev KernelIdeal.nD, Pre_routing_tables.fn (F := F)
      (m ((c.tc : Thread _ _).loc KernelIdeal.main_arg0)) (m ((c.tc : Thread _ _).loc KernelIdeal.main_arg1))
      (m ((c.tc : Thread _ _).loc KernelIdeal.main_arg2)) (m ((c.tc : Thread _ _).loc KernelIdeal.main_arg3))
      (m ((c.tc : Thread _ _).loc KernelIdeal.main_arg4)) (m ((c.tc : Thread _ _).loc KernelIdeal.main_arg5))
      (m ((c.tc : Thread _ _).loc KernelIdeal.main_arg6)) (m ((c.tc : Thread _ _).loc KernelIdeal.main_arg7)) = fun _ => 1#1) :
    KernelIdeal.Routed.InRange (KernelIdeal.Routed.tables m 3) (KernelIdeal.Routed.tables m 0) (KernelIdeal.Routed.tables m 2) :=
  KernelIdeal.Routed.inRange _ _ _ _ _ _ _ _ (h 0)

/-- The reference runs, leaves its arguments alone and declares no semaphore. -/
theorem reference_frame : quiescent_ReferenceIdeal := fun m g _ =>
  (θ_run _ _ _).mono (fun r h => ⟨fun c => (h c).2, sem_eq_zero_of_no_sems rfl r.2⟩) (ReferenceIdeal.Value.run m g)

/-- The kernel runs on machine numbers. -/
theorem kernel_frame : quiescent_Kernel := fun m g h =>
  Kernel.Routed.frame m g (KernelIdeal.Routed.tame m (ranged (F := Bits) h))

/-- The kernel runs on extended reals. -/
theorem ideal_frame : quiescent_KernelIdeal := fun m g h =>
  (θ_run _ _ _).mono (fun _ h => ⟨fun c => (h.1 c).1, h.2⟩)
    (KernelIdeal.Routed.run_blocks (m := m) g (KernelIdeal.Routed.tame m (ranged (F := Ideal) h)))

/-- A result index is a tile and a row of it. -/
theorem index_tile (i : (⟨2, ![40960, 1024]⟩ : Shape).Idx) : ∃ t r j, i = ix2 (row t r) j := by
  have h : (i 0).val < 40960 := (i 0).isLt
  refine ⟨⟨(i 0).val / 128, by omega⟩, ⟨(i 0).val % 128, by omega⟩, i 1, funext fun a => ?_⟩
  match a with
  | 0 => exact Fin.ext (Nat.div_add_mod (i 0).val 128).symm
  | 1 => rfl

/-- The array the kernel leaves is the array the reference computes. -/
theorem array_eq (m : (ℓ : Loc KernelIdeal.nD KernelIdeal.τ KernelIdeal.sig) → Buf (Elt Ideal) ℓ) (c : Dev KernelIdeal.nD)
    (hR : KernelIdeal.Routed.InRange (KernelIdeal.Routed.tables m 3) (KernelIdeal.Routed.tables m 0) (KernelIdeal.Routed.tables m 2))
    (hT : KernelIdeal.Routed.Tame m) :
    ReferenceIdeal.Read.val_main_v57 (F := Ideal)
      (m ((c.tc : Thread _ _).loc KernelIdeal.main_arg0)) (m ((c.tc : Thread _ _).loc KernelIdeal.main_arg1))
      (m ((c.tc : Thread _ _).loc KernelIdeal.main_arg2)) (m ((c.tc : Thread _ _).loc KernelIdeal.main_arg3))
      (m ((c.tc : Thread _ _).loc KernelIdeal.main_arg4)) (m ((c.tc : Thread _ _).loc KernelIdeal.main_arg5))
      (m ((c.tc : Thread _ _).loc KernelIdeal.main_arg6)) (m ((c.tc : Thread _ _).loc KernelIdeal.main_arg7))
    = (KernelIdeal.Routed.dats hT 0 c).arrAt 4 (KernelIdeal.Routed.cfgM hT).N := by
  obtain rfl : c = 0 := Subsingleton.elim _ _
  funext i
  obtain ⟨t, r, j, rfl⟩ := index_tile i
  exact (ReferenceIdeal.Routed.result_at _ _ _ _ _ _ _ _ t r j hR.expert_lt hR.first_le hR.tok_lt).trans
    (KernelIdeal.Routed.result_at 0 hT t r j hR.expert_lt).symm

/-- THE VALUE: where the tables are in range both programs run and leave the same array. -/
theorem algebraic : algebraic_KernelIdeal_ReferenceIdeal := by
  intro m g m' g' hpre hag
  have hR := ranged (F := Ideal) hpre
  have hT := KernelIdeal.Routed.tame m hR
  refine ⟨fun c => (KernelIdeal.Routed.dats hT 0 c).arrAt 4 (KernelIdeal.Routed.cfgM hT).N,
    (θ_run _ _ _).mono (fun r h c => ⟨(h.1 c).2, (h.1 c).1⟩) (KernelIdeal.Routed.run_blocks (m := m) g hT), ?_⟩
  refine (θ_run _ _ _).mono (fun r h c => ⟨(h c).1.trans ?_, (h c).2⟩) (ReferenceIdeal.Value.run m' g')
  obtain ⟨e0, e1, e2, e3, e4, e5, e6, e7⟩ := hag c
  refine (ReferenceIdeal.Read.val_main_v57_eq _ _).trans (Eq.trans ?_ (array_eq m c hR hT))
  rw [e0, e1, e2, e3, e4, e5, e6, e7]

end Cert.Proof.Layer

end
-- ==== Proof.AttentionBlock.lean ====
module

public import proofs.«01_k».proof.Proof.Gen.AttentionIdeal.Value
public import Idealize.ShloMosaic.Lib.Pipeline.ValueKit
public import Idealize.ShloMosaic.Lib.Pointwise

@[expose] public section

set_option maxRecDepth 16384

noncomputable section

/-! # What the attention kernel leaves in one block of its result

At a grid point the kernel walks over the keys in four blocks of 512, written one after the other: each adds to a numerator
and to a denominator per query; at the end it divides. The four blocks do one computation, which is stated once here, for any
block of keys and values. -/

namespace Cert.AttentionIdeal.Block

open Cert.AttentionIdeal Cert.AttentionIdeal.Gen Idealize.ShloMosaic Idealize.ShloMosaic.TcCoe Idealize.SL.Sem

/-- The instance in which a float is an extended real. -/
abbrev F := Idealize.ShloMosaic.Ideal

variable (b : EReal) (kb : S1x512x128.Idx → EReal) (vb : S1x1x128x512.Idx → EReal) (qb qb' : S1x1x1x128x512.Idx → EReal)

/-! ## One block of keys -/

/-- The weights of a block of keys for a head's queries, before they are normalised: `b` is subtracted from each score. -/
def part (r j : Fin 512) : EReal :=
  Idealize.ShloMosaic.Ideal.exp2 (∑ e : Fin 128, kb (ix3 0 j e) * qb (ix5 0 0 0 e r) - b)

/-- A head's denominators after a block, from those before it … -/
def denomAfter (prev : S1x512.Idx → EReal) : S1x512.Idx → EReal := k0_pay11 (F := F) b prev (k0_pay6 (F := F) kb qb)

/-- … and its numerators. -/
def numerAfter (acc : S1x128x512.Idx → EReal) : S1x128x512.Idx → EReal :=
  k0_pay12 (F := F) b (k0_pay5 (F := F) vb) (k0_pay6 (F := F) kb qb) acc

theorem denomAfter_apply (prev : S1x512.Idx → EReal) (r : Fin 512) :
    denomAfter b kb qb prev (ix2 0 r) = prev (ix2 0 r) + ∑ j, part b kb qb r j := by
  pointwise [denomAfter, k0_pay11, k0_pay10, k0_pay6, k0_pay4, part]
  rfl

theorem numerAfter_apply (acc : S1x128x512.Idx → EReal) (d : Fin 128) (r : Fin 512) :
    numerAfter b kb vb qb acc (ix3 0 d r) = acc (ix3 0 d r) + ∑ j, vb (ix4 0 0 d j) * part b kb qb r j := by
  pointwise [numerAfter, k0_pay12, k0_pay10, k0_pay5, k0_pay6, k0_pay4, part]
  rfl

/-! ## The numerators' buffer -/

/-- One head's rows of the numerators' buffer. -/
abbrev head0 : Rect S2x128x512 := Rect.unit ![0, 0, 0] ![1, 128, 512] inb_S2x128x512_S1x128x512_0_0_0
abbrev head1 : Rect S2x128x512 := Rect.unit ![1, 0, 0] ![1, 128, 512] inb_S2x128x512_S1x128x512_1_0_0

theorem head0_emb (d : Fin 128) (r : Fin 512) : head0.emb (ix3 0 d r) = ix3 0 d r := by
  refine funext fun a => Fin.ext ((Rect.idx_unit_val _ _ _ _ a).trans ?_)
  fin_cases a
  exacts [rfl, Nat.zero_add _, Nat.zero_add _]

theorem head1_emb (d : Fin 128) (r : Fin 512) : head1.emb (ix3 0 d r) = ix3 1 d r := by
  refine funext fun a => Fin.ext ((Rect.idx_unit_val _ _ _ _ a).trans ?_)
  fin_cases a
  exacts [rfl, Nat.zero_add _, Nat.zero_add _]

theorem head0_not_mem (d : Fin 128) (r : Fin 512) : (ix3 0 d r : S2x128x512.Idx) ∉ head1.set := by
  rw [Rect.mem_set_unit]
  exact fun h => absurd (h 0).1 (Nat.not_succ_le_zero 0)

theorem head1_not_mem (d : Fin 128) (r : Fin 512) : (ix3 1 d r : S2x128x512.Idx) ∉ head0.set := by
  rw [Rect.mem_set_unit]
  exact fun h => absurd (h 0).2 (Nat.lt_irrefl 1)

/-- Stores made into the numerators' buffer, the last first. -/
abbrev Stores := List (View.Piece (Elt F) S2x128x512 .f32)

/-- What the stores leave at one head, as the kernel loads it. -/
abbrev held (L : Stores) (R : Rect S2x128x512) : R.shape.Idx → EReal := (View.whole cc0_scratch0).readCov (Val := Elt F) L R.toLoadRect

/-- The stores after a block's first head, and after both. -/
abbrev stored0 (L : Stores) : Stores := ⟨head0, numerAfter b kb vb qb (held L head0)⟩ :: L
abbrev stored (L : Stores) : Stores :=
  ⟨head1, numerAfter b kb vb qb' (held (stored0 b kb vb qb L) head1)⟩ :: stored0 b kb vb qb L

theorem canon_head0 (w : S1x128x512.Idx → EReal) (L : Stores) (d : Fin 128) (r : Fin 512) :
    View.canon ((⟨head0, w⟩ : View.Piece (Elt F) S2x128x512 .f32) :: L) (ix3 0 d r) = w (ix3 0 d r) :=
  (congrArg _ (head0_emb d r).symm).trans (View.canon_cons_emb head0 _ _ (ix3 0 d r))

theorem canon_head1 (w : S1x128x512.Idx → EReal) (L : Stores) (d : Fin 128) (r : Fin 512) :
    View.canon ((⟨head1, w⟩ : View.Piece (Elt F) S2x128x512 .f32) :: L) (ix3 1 d r) = w (ix3 0 d r) :=
  (congrArg _ (head1_emb d r).symm).trans (View.canon_cons_emb head1 _ _ (ix3 0 d r))

theorem canon_skip0 (w : S1x128x512.Idx → EReal) (L : Stores) (d : Fin 128) (r : Fin 512) :
    View.canon ((⟨head0, w⟩ : View.Piece (Elt F) S2x128x512 .f32) :: L) (ix3 1 d r) = View.canon L (ix3 1 d r) :=
  View.canon_cons_of_not_mem (Val := Elt F) (s := S2x128x512) (e := .f32) ⟨head0, w⟩ L (head1_not_mem d r)

theorem canon_skip1 (w : S1x128x512.Idx → EReal) (L : Stores) (d : Fin 128) (r : Fin 512) :
    View.canon ((⟨head1, w⟩ : View.Piece (Elt F) S2x128x512 .f32) :: L) (ix3 0 d r) = View.canon L (ix3 0 d r) :=
  View.canon_cons_of_not_mem (Val := Elt F) (s := S2x128x512) (e := .f32) ⟨head1, w⟩ L (head0_not_mem d r)

theorem held0 (L : Stores) (d : Fin 128) (r : Fin 512) : held L head0 (ix3 0 d r) = View.canon L (ix3 0 d r) :=
  (congrFun (View.readCov_eq_canon' _ L head0.toLoadRect) _).trans (congrArg _ (head0_emb d r))

theorem held1 (L : Stores) (d : Fin 128) (r : Fin 512) : held L head1 (ix3 0 d r) = View.canon L (ix3 1 d r) :=
  (congrFun (View.readCov_eq_canon' _ L head1.toLoadRect) _).trans (congrArg _ (head1_emb d r))

/-- A block of keys adds its weighted values to the first head's numerators … -/
theorem stored_head0 (L : Stores) (d : Fin 128) (r : Fin 512) :
    View.canon (stored b kb vb qb qb' L) (ix3 0 d r)
      = (View.canon L (ix3 0 d r) + ∑ j, vb (ix4 0 0 d j) * part b kb qb r j : EReal) := by
  have h : held L head0 (ix3 0 d r) = View.canon L (ix3 0 d r) := held0 L d r
  refine (canon_skip1 _ _ d r).trans ((canon_head0 _ _ d r).trans ?_)
  revert h
  generalize held L head0 = acc
  intro h
  exact (numerAfter_apply b kb vb qb acc d r).trans (congrArg (fun x : EReal => x + _) h)

/-- … and to the second's. -/
theorem stored_head1 (L : Stores) (d : Fin 128) (r : Fin 512) :
    View.canon (stored b kb vb qb qb' L) (ix3 1 d r)
      = (View.canon L (ix3 1 d r) + ∑ j, vb (ix4 0 0 d j) * part b kb qb' r j : EReal) := by
  have h : held (stored0 b kb vb qb L) head1 (ix3 0 d r) = View.canon L (ix3 1 d r) := (held1 _ d r).trans (canon_skip0 _ L d r)
  refine (canon_head1 _ _ d r).trans ?_
  revert h
  generalize held (stored0 b kb vb qb L) head1 = acc
  intro h
  exact (numerAfter_apply b kb vb qb' acc d r).trans (congrArg (fun x : EReal => x + _) h)

/-! ## The printed blocks are that one -/

theorem first_denom : k0_pay8 (F := F) b kb qb = denomAfter b kb qb (k0_pay3 (F := F)) := rfl
theorem first_numer (acc : S1x128x512.Idx → EReal) :
    k0_pay9 (F := F) (k0_pay5 vb) (k0_pay7 b kb qb) acc = numerAfter b kb vb qb acc := rfl
theorem first_denom1 (prev : S1x512.Idx → EReal) : k0_pay11 (F := F) b prev (k0_pay6 kb qb) = denomAfter b kb qb prev := rfl
theorem first_numer1 (acc : S1x128x512.Idx → EReal) :
    k0_pay12 (F := F) b (k0_pay5 vb) (k0_pay6 kb qb) acc = numerAfter b kb vb qb acc := rfl
theorem second_denom0 (prev : S1x512.Idx → EReal) :
    k0_pay17 (F := F) b prev (k0_pay13 kb) (k0_pay15 qb) (constant S512x512 .f32 0x00000000#32) = denomAfter b kb qb prev := rfl
theorem second_numer0 (acc : S1x128x512.Idx → EReal) :
    k0_pay18 (F := F) b (k0_pay13 kb) (k0_pay14 vb) (k0_pay15 qb) (constant S512x512 .f32 0x00000000#32) acc
      = numerAfter b kb vb qb acc := rfl
theorem second_denom1 (prev : S1x512.Idx → EReal) : k0_pay20 (F := F) b prev (k0_pay13 kb) qb = denomAfter b kb qb prev := rfl
theorem second_numer1 (acc : S1x128x512.Idx → EReal) :
    k0_pay21 (F := F) b (k0_pay13 kb) (k0_pay14 vb) qb acc = numerAfter b kb vb qb acc := rfl
theorem third_denom0 (prev : S1x512.Idx → EReal) : k0_pay25 (F := F) b prev kb qb = denomAfter b kb qb prev := rfl
theorem third_numer0 (acc : S1x128x512.Idx → EReal) : k0_pay26 (F := F) b kb vb qb acc = numerAfter b kb vb qb acc := rfl
theorem third_denom1 (prev : S1x512.Idx → EReal) : k0_pay28 (F := F) b prev kb qb = denomAfter b kb qb prev := rfl
theorem third_numer1 (acc : S1x128x512.Idx → EReal) :
    k0_pay29 (F := F) (k0_pay23 vb) (k0_pay27 b kb qb) acc = numerAfter b kb vb qb acc := rfl
theorem fourth_denom0 (prev : S1x512.Idx → EReal) : k0_pay34 (F := F) b prev kb qb = denomAfter b kb qb prev := rfl
theorem fourth_numer0 (acc : S1x128x512.Idx → EReal) :
    k0_pay36 (F := F) (k0_pay31 vb) (k0_pay33 b kb qb) (k0_pay35 acc) = numerAfter b kb vb qb acc := rfl
theorem fourth_numer1 (acc : S1x128x512.Idx → EReal) :
    k0_pay38 (F := F) b (k0_pay31 vb) (k0_pay32 kb qb) acc = numerAfter b kb vb qb acc := rfl

/-! ## The end -/

/-- The lane of the result that holds value lane `l` of group member `g` of key head `h`. -/
def outLane (h : Fin 2) (g : Fin 4) (l : Fin 64) : Fin 512 := ⟨256 * h.val + 64 * g.val + l.val, by omega⟩

/-- The query column of row `r` of group member `g`. -/
def col (g : Fin 4) (r : Fin 128) : Fin 512 := ⟨128 * g.val + r.val, by omega⟩

/-- The value lane `l` of key head `h`. -/
def valLane (h : Fin 2) (l : Fin 64) : Fin 128 := ⟨64 * h.val + l.val, by omega⟩

/-- The last payload, from the denominators and numerators of the first head and, of the second, the denominators before the
    last block, that block's keys and queries, and the numerators. -/
abbrev finish (a d : S1x512.Idx → EReal) (v w : S1x128x512.Idx → EReal) : S1x128x512.Idx → EReal :=
  k0_pay1 (F := F) (k0_pay40 a v) (k0_pay41 a v) (k0_pay42 a v) (k0_pay43 a v) (k0_pay44 b d (k0_pay32 kb qb) w)
    (k0_pay45 b d (k0_pay32 kb qb) w) (k0_pay46 b d (k0_pay32 kb qb) w) (k0_pay47 b d (k0_pay32 kb qb) w)

/-- It divides numerators by denominators and puts the heads side by side. -/
theorem finish0 (a d : S1x512.Idx → EReal) (v w : S1x128x512.Idx → EReal) (r : Fin 128) (g : Fin 4) (l : Fin 64) :
    finish b kb qb a d v w (ix3 0 r (outLane 0 g l))
      = Idealize.ShloMosaic.Ideal.div (v (ix3 0 (valLane 0 l) (col g r))) (a (ix2 0 (col g r))) := by
  pointwise [finish, k0_pay1, k0_pay40, k0_pay41, k0_pay42, k0_pay43, k0_pay39]
  unfold outLane valLane col
  fin_cases g
  all_goals
    dsimp only [Fin.val_zero, Fin.val_one]
    repeat refine (dif_neg (by omega)).trans ?_
    try refine (dif_pos (by omega)).trans ?_
    refine congrArg₂ Idealize.ShloMosaic.Ideal.div (congrArg v (congrArg₂ (ix3 0) (Fin.ext ?_) (Fin.ext ?_)))
      (congrArg a (congrArg (ix2 0) (Fin.ext ?_)))
    all_goals (dsimp only [Fin.val_zero, Fin.val_one]; try omega)

theorem finish1 (a d : S1x512.Idx → EReal) (v w : S1x128x512.Idx → EReal) (r : Fin 128) (g : Fin 4) (l : Fin 64) :
    finish b kb qb a d v w (ix3 0 r (outLane 1 g l))
      = Idealize.ShloMosaic.Ideal.div (w (ix3 0 (valLane 1 l) (col g r))) (denomAfter b kb qb d (ix2 0 (col g r))) := by
  have e : ∀ (c : Fin 512) (t : Fin 64), k0_pay44 (F := F) b d (k0_pay32 kb qb) w (ix2 c t) = Idealize.ShloMosaic.Ideal.div
      (w (ix3 0 ⟨64 + t.val, by omega⟩ c)) (denomAfter b kb qb d (ix2 0 c)) := by
    intro c t
    have h0 : k0_pay44 (F := F) b d (k0_pay32 kb qb) w = extractStridedSlice S512x64 ![0, 64] (transpose S512x128 [1, 0]
      (divf (shapeCast S128x512 w shapeCasts_S1x128x512_S128x512)
        (broadcastTo S128x512 (denomAfter b kb qb d) broadcasts_S1x512_S128x512)) transposes_S128x512_p1_0_S512x128)
        slices_S512x128_o0_64_S512x64 := rfl
    rw [h0]
    generalize denomAfter b kb qb d = D
    pointwise
  unfold finish k0_pay45 k0_pay46 k0_pay47
  revert e
  generalize k0_pay44 (F := F) b d (k0_pay32 kb qb) w = Z
  generalize denomAfter b kb qb d = D
  intro e
  pointwise [k0_pay1]
  simp only [e]
  unfold outLane valLane col
  fin_cases g
  all_goals
    dsimp only [Fin.val_zero, Fin.val_one]
    repeat refine (dif_neg (by omega)).trans ?_
    try refine (dif_pos (by omega)).trans ?_
    refine congrArg₂ Idealize.ShloMosaic.Ideal.div (congrArg w (congrArg₂ (ix3 0) (Fin.ext ?_) (Fin.ext ?_)))
      (congrArg D (congrArg (ix2 0) (Fin.ext ?_)))
    all_goals (dsimp only [Fin.val_zero, Fin.val_one]; try omega)

end Cert.AttentionIdeal.Block

end
-- ==== Proof.AttentionValue.lean ====
module

public import proofs.«01_k».proof.Proof.AttentionBlock

@[expose] public section

set_option maxRecDepth 16384

noncomputable section

/-! # The attention kernel's block at one element, and the array it leaves -/

namespace Cert.AttentionIdeal.Block

open Cert.AttentionIdeal Cert.AttentionIdeal.Gen Idealize.ShloMosaic Idealize.ShloMosaic.TcCoe Idealize.SL.Sem

section Point

variable (b : EReal) (xq : S1x2x1x128x512.Idx → EReal) (xk : S1x2048x128.Idx → EReal) (xv : S1x4x128x512.Idx → EReal)

/-- The score of a query column of head `h` against a key. -/
def score (h : Fin 2) (r : Fin 512) (k : Fin 2048) : EReal := ∑ e : Fin 128, xk (ix3 0 k e) * xq (ix5 0 h 0 e r)

/-- Its weight, before normalisation. -/
def weight (h : Fin 2) (r : Fin 512) (k : Fin 2048) : EReal := Idealize.ShloMosaic.Ideal.exp2 (score xq xk h r k - b)

/-- Row `d` of the value of a key; the values lie in four blocks. -/
def value (d : Fin 128) (k : Fin 2048) : EReal := xv (ix4 0 ⟨k.val / 512, by omega⟩ d ⟨k.val % 512, by omega⟩)

/-- The `j`-th key of block `n`. -/
def key (n : Fin 4) (j : Fin 512) : Fin 2048 := ⟨512 * n.val + j.val, by omega⟩

theorem value_key (d : Fin 128) (n : Fin 4) (j : Fin 512) : value xv d (key n j) = xv (ix4 0 n d j) := by
  have e1 : (⟨(key n j).val / 512, by omega⟩ : Fin 4) = n := Fin.ext (by simp only [key]; omega)
  have e2 : (⟨(key n j).val % 512, by omega⟩ : Fin 512) = j := Fin.ext (by simp only [key]; omega)
  unfold value
  rw [e1, e2]

/-- A sum over the keys, block by block … -/
theorem sum_blocks (f : Fin 2048 → EReal) : ∑ n : Fin 4, ∑ j : Fin 512, f (key n j) = ∑ k, f k := by
  rw [← Fintype.sum_prod_type' fun n j => f (key n j)]
  refine Fintype.sum_equiv (finProdFinEquiv (m := 4) (n := 512)) _ _ fun p => congrArg f (Fin.ext ?_)
  exact Nat.add_comm _ _

/-- … and with the four blocks written out. -/
theorem sum_keys (f : Fin 2048 → EReal) :
    0 + ∑ j, f (key 0 j) + ∑ j, f (key 1 j) + ∑ j, f (key 2 j) + ∑ j, f (key 3 j) = ∑ k, f k := by
  rw [← sum_blocks, Fin.sum_univ_four, zero_add]

/-- The keys and values of block `n` and the queries of head `h`, as the kernel loads them. -/
def IsKeys (n : Fin 4) (kb : S1x512x128.Idx → EReal) : Prop := ∀ j e, kb (ix3 0 j e) = xk (ix3 0 (key n j) e)
def IsValues (n : Fin 4) (vb : S1x1x128x512.Idx → EReal) : Prop := ∀ d j, vb (ix4 0 0 d j) = xv (ix4 0 n d j)
def IsQueries (h : Fin 2) (qb : S1x1x1x128x512.Idx → EReal) : Prop := ∀ e r, qb (ix5 0 0 0 e r) = xq (ix5 0 h 0 e r)

variable {xq xk xv}

theorem part_eq {n : Fin 4} {h : Fin 2} {kb : S1x512x128.Idx → EReal} {qb : S1x1x1x128x512.Idx → EReal}
    (hk : IsKeys xk n kb) (hq : IsQueries xq h qb) (r j : Fin 512) : part b kb qb r j = weight b xq xk h r (key n j) := by
  unfold part weight score
  simp only [hk _ _, hq _ _]

theorem term_eq {n : Fin 4} {h : Fin 2} {kb : S1x512x128.Idx → EReal} {vb : S1x1x128x512.Idx → EReal}
    {qb : S1x1x1x128x512.Idx → EReal} (hk : IsKeys xk n kb) (hv : IsValues xv n vb) (hq : IsQueries xq h qb) (d : Fin 128)
    (r j : Fin 512) : vb (ix4 0 0 d j) * part b kb qb r j = value xv d (key n j) * weight b xq xk h r (key n j) := by
  rw [part_eq b hk hq, hv, value_key]

/-- The buffer starts at zero. -/
abbrev zeros : Stores := [⟨Rect.unit ![0, 0, 0] S2x128x512.size inb_S2x128x512_S2x128x512_0_0_0, k0_pay2 (F := F)⟩]

theorem zeros_apply (h : Fin 2) (d : Fin 128) (r : Fin 512) : View.canon zeros (ix3 h d r) = (0 : EReal) := by
  rw [View.canon_cons_unit_lit inb_S2x128x512_S2x128x512_0_0_0 _ [] (by decide)]
  pointwise [k0_pay2]

variable (k0 k1 k2 k3 : S1x512x128.Idx → EReal) (v0 v1 v2 v3 : S1x1x128x512.Idx → EReal)
  (q0 q1 : S1x1x1x128x512.Idx → EReal)

/-- After the four blocks: the denominators of a head … -/
abbrev denoms (q : S1x1x1x128x512.Idx → EReal) : S1x512.Idx → EReal :=
  denomAfter b k3 q (denomAfter b k2 q (denomAfter b k1 q (denomAfter b k0 q (k0_pay3 (F := F)))))

/-- … and the stores into the numerators' buffer. -/
abbrev stores : Stores :=
  stored b k3 v3 q0 q1 (stored b k2 v2 q0 q1 (stored b k1 v1 q0 q1 (stored b k0 v0 q0 q1 zeros)))

variable {k0 k1 k2 k3 v0 v1 v2 v3 q0 q1}

theorem denoms_apply (h0 : IsKeys xk 0 k0) (h1 : IsKeys xk 1 k1) (h2 : IsKeys xk 2 k2) (h3 : IsKeys xk 3 k3) {h : Fin 2}
    {q : S1x1x1x128x512.Idx → EReal} (hq : IsQueries xq h q) (r : Fin 512) :
    denoms b k0 k1 k2 k3 q (ix2 0 r) = ∑ k, weight b xq xk h r k := by
  have z : k0_pay3 (F := F) (ix2 0 r) = (0 : EReal) := by pointwise [k0_pay3]
  refine (denomAfter_apply ..).trans ?_
  rw [denomAfter_apply, denomAfter_apply, denomAfter_apply, z]
  simp only [part_eq b h0 hq, part_eq b h1 hq, part_eq b h2 hq, part_eq b h3 hq]
  exact sum_keys _

theorem stores_apply (h0 : IsKeys xk 0 k0) (h1 : IsKeys xk 1 k1) (h2 : IsKeys xk 2 k2) (h3 : IsKeys xk 3 k3)
    (w0 : IsValues xv 0 v0) (w1 : IsValues xv 1 v1) (w2 : IsValues xv 2 v2) (w3 : IsValues xv 3 v3)
    (hq0 : IsQueries xq 0 q0) (hq1 : IsQueries xq 1 q1) (h : Fin 2) (d : Fin 128) (r : Fin 512) :
    View.canon (stores b k0 k1 k2 k3 v0 v1 v2 v3 q0 q1) (ix3 h d r) = ∑ k, value xv d k * weight b xq xk h r k := by
  refine Eq.trans ?_ (sum_keys fun k => value xv d k * weight b xq xk h r k)
  have hh : h = 0 ∨ h = 1 := by omega
  rcases hh with rfl | rfl
  · refine (stored_head0 ..).trans (congrArg₂ (fun x y : EReal => x + y) ?_ (Finset.sum_congr rfl fun j _ => term_eq b h3 w3 hq0 d r j))
    refine (stored_head0 ..).trans (congrArg₂ (fun x y : EReal => x + y) ?_ (Finset.sum_congr rfl fun j _ => term_eq b h2 w2 hq0 d r j))
    refine (stored_head0 ..).trans (congrArg₂ (fun x y : EReal => x + y) ?_ (Finset.sum_congr rfl fun j _ => term_eq b h1 w1 hq0 d r j))
    exact (stored_head0 ..).trans (congrArg₂ (fun x y : EReal => x + y) (zeros_apply ..) (Finset.sum_congr rfl fun j _ => term_eq b h0 w0 hq0 d r j))
  · refine (stored_head1 ..).trans (congrArg₂ (fun x y : EReal => x + y) ?_ (Finset.sum_congr rfl fun j _ => term_eq b h3 w3 hq1 d r j))
    refine (stored_head1 ..).trans (congrArg₂ (fun x y : EReal => x + y) ?_ (Finset.sum_congr rfl fun j _ => term_eq b h2 w2 hq1 d r j))
    refine (stored_head1 ..).trans (congrArg₂ (fun x y : EReal => x + y) ?_ (Finset.sum_congr rfl fun j _ => term_eq b h1 w1 hq1 d r j))
    exact (stored_head1 ..).trans (congrArg₂ (fun x y : EReal => x + y) (zeros_apply ..) (Finset.sum_congr rfl fun j _ => term_eq b h0 w0 hq1 d r j))

/-- The last payload of all this holds, per query and value lane, the weighted values over the weights. -/
theorem whole_apply (h0 : IsKeys xk 0 k0) (h1 : IsKeys xk 1 k1) (h2 : IsKeys xk 2 k2) (h3 : IsKeys xk 3 k3)
    (w0 : IsValues xv 0 v0) (w1 : IsValues xv 1 v1) (w2 : IsValues xv 2 v2) (w3 : IsValues xv 3 v3)
    (hq0 : IsQueries xq 0 q0) (hq1 : IsQueries xq 1 q1) (r : Fin 128) (h : Fin 2) (g : Fin 4) (l : Fin 64) :
    finish b k3 q1 (denoms b k0 k1 k2 k3 q0) (denomAfter b k2 q1 (denomAfter b k1 q1 (denomAfter b k0 q1 (k0_pay3 (F := F)))))
        (held (stores b k0 k1 k2 k3 v0 v1 v2 v3 q0 q1) head0) (held (stores b k0 k1 k2 k3 v0 v1 v2 v3 q0 q1) head1)
        (ix3 0 r (outLane h g l))
      = Idealize.ShloMosaic.Ideal.div (∑ k, value xv (valLane h l) k * weight b xq xk h (col g r) k)
          (∑ k, weight b xq xk h (col g r) k) := by
  have n := stores_apply b h0 h1 h2 h3 w0 w1 w2 w3 hq0 hq1
  have hh : h = 0 ∨ h = 1 := by omega
  rcases hh with rfl | rfl
  · exact (finish0 ..).trans (congrArg₂ _ ((held0 ..).trans (n 0 _ _)) (denoms_apply b h0 h1 h2 h3 hq0 _))
  · exact (finish1 ..).trans (congrArg₂ _ ((held1 ..).trans (n 1 _ _)) (denoms_apply b h0 h1 h2 h3 hq1 _))

end Point

/-! ## The loads -/

section Loads

variable (xq : S1x2x1x128x512.Idx → EReal) (xk : S1x2048x128.Idx → EReal) (xv : S1x4x128x512.Idx → EReal)

/-- Block `n` of the values, and head `h` of the queries. -/
def valuesOf (n : Fin 4) : S1x1x128x512.Idx → EReal := fun u => xv (ix4 0 n (u 2) (u 3))
def queriesOf (h : Fin 2) : S1x1x1x128x512.Idx → EReal := fun u => xq (ix5 0 h 0 (u 3) (u 4))

/-- What the kernel loads is that; of the keys, 512 from an offset on. -/
theorem isKeys (n : Fin 4) (o : Fin 3 → Nat) (hb : ∀ a, o a + S1x512x128.size a ≤ S1x2048x128.size a)
    (h0 : o 0 = 0) (h1 : o 1 = 512 * n.val) (h2 : o 2 = 0) :
    IsKeys xk n (View.ld (Val := Elt F) (e' := .f32) (S := S1x2048x128) xk (Rect.unit o S1x512x128.size hb)) := by
  intro j e
  refine congrArg xk (funext fun a => Fin.ext ((Rect.idx_unit_val _ _ _ _ a).trans ?_))
  fin_cases a
  exacts [h0, congrArg (· + j.val) h1, (congrArg (· + e.val) h2).trans (Nat.zero_add _)]

theorem ld_values (n : Fin 4) (o : Fin 4 → Nat) (h0 : o 0 = 0) (h1 : o 1 = n.val) (h2 : o 2 = 0) (h3 : o 3 = 0)
    (hb : ∀ a, o a + S1x1x128x512.size a ≤ S1x4x128x512.size a) :
    View.ld (Val := Elt F) (e' := .f32) (S := S1x4x128x512) xv (Rect.unit o ![1, 1, 128, 512] hb) = valuesOf xv n := by
  funext u
  refine congrArg xv (funext fun a => Fin.ext ((Rect.idx_unit_val _ _ _ _ a).trans ?_))
  fin_cases a
  exacts [congrArg₂ (· + ·) h0 (Nat.lt_one_iff.1 (u 0).isLt), congrArg₂ (· + ·) h1 (Nat.lt_one_iff.1 (u 1).isLt),
    (congrArg (· + (u 2).val) h2).trans (Nat.zero_add _), (congrArg (· + (u 3).val) h3).trans (Nat.zero_add _)]

theorem ld_queries (h : Fin 2) (o : Fin 5 → Nat) (h0 : o 0 = 0) (h1 : o 1 = h.val) (h2 : o 2 = 0) (h3 : o 3 = 0)
    (h4 : o 4 = 0) (hb : ∀ a, o a + S1x1x1x128x512.size a ≤ S1x2x1x128x512.size a) :
    View.ld (Val := Elt F) (e' := .f32) (S := S1x2x1x128x512) xq (Rect.unit o ![1, 1, 1, 128, 512] hb) = queriesOf xq h := by
  funext u
  refine congrArg xq (funext fun a => Fin.ext ((Rect.idx_unit_val _ _ _ _ a).trans ?_))
  fin_cases a
  exacts [congrArg₂ (· + ·) h0 (Nat.lt_one_iff.1 (u 0).isLt), congrArg₂ (· + ·) h1 (Nat.lt_one_iff.1 (u 1).isLt),
    congrArg₂ (· + ·) h2 (Nat.lt_one_iff.1 (u 2).isLt),
    (congrArg (· + (u 3).val) h3).trans (Nat.zero_add _), (congrArg (· + (u 4).val) h4).trans (Nat.zero_add _)]

/-- THE BLOCK: row `r`, value lane `l` of group member `g` of key head `h` holds the sum of the weighted values over the
    sum of the weights. -/
theorem block_apply (c : Dev nD) (t : Fin cfg0.N) (x0 : S1x1.Idx → EReal) (r : Fin 128) (h : Fin 2) (g : Fin 4) (l : Fin 64) :
    out0_A_4 (F := F) c (grid0.coords t) (ms0_0 t) (hs0_0 t) (ms0_1 t) (hs0_1 t) (ms0_2 t) (hs0_2 t) (ms0_3 t) (hs0_3 t)
        (ms0_4 t) (hs0_4 t) scM0_0 (Memref.isWhole_whole _) x0 xq xk xv (ix3 0 r (outLane h g l))
      = Idealize.ShloMosaic.Ideal.div
          (∑ k, value xv (valLane h l) k * weight (x0 (ix2 0 0)) xq xk h (col g r) k)
          (∑ k, weight (x0 (ix2 0 0)) xq xk h (col g r) k) := by
  unfold out0_A_4
  refine (congrFun (View.read_writes_eq_canon _ _ _ (cover0_A_4 (F := F) c (grid0.coords t) (ms0_0 t) (hs0_0 t) (ms0_1 t)
    (hs0_1 t) (ms0_2 t) (hs0_2 t) (ms0_3 t) (hs0_3 t) (ms0_4 t) (hs0_4 t) scM0_0 (Memref.isWhole_whole _) x0 xq xk xv))
    _).trans ?_
  unfold kernelRun0_A
  dsimp only
  sl_unfold_words
  rw [View.canon_cons_unit_lit inb_S1x128x512_S1x128x512_0_0_0 _ [] (by decide)]
  simp only [View.readAt_eq_ld, (hs0_0 t).read_unread, (hs0_1 t).read_unread, (hs0_2 t).read_unread, (hs0_3 t).read_unread]
  have hx : ∀ u, View.ld (Val := Elt F) (e' := .f32) (S := S1x1) x0 (Rect.unit ![0, 0] ![1, 1] inb_S1x1_S1x1_0_0) u = x0 (ix2 0 0) :=
    fun u => congrArg x0 (funext fun a => by fin_cases a <;> exact Subsingleton.elim (α := Fin 1) _ _)
  rw [hx]
  simp only [ld_values xv 0 ![0, 0, 0, 0] rfl rfl rfl rfl, ld_values xv 1 ![0, 1, 0, 0] rfl rfl rfl rfl,
    ld_values xv 2 ![0, 2, 0, 0] rfl rfl rfl rfl, ld_values xv 3 ![0, 3, 0, 0] rfl rfl rfl rfl,
    ld_queries xq 0 ![0, 0, 0, 0, 0] rfl rfl rfl rfl rfl, ld_queries xq 1 ![0, 1, 0, 0, 0] rfl rfl rfl rfl rfl,
    first_denom, first_numer, first_denom1, first_numer1, second_denom0, second_numer0, second_denom1, second_numer1,
    third_denom0, third_numer0, third_denom1, third_numer1, fourth_denom0, fourth_numer0, fourth_numer1]
  exact whole_apply (x0 (ix2 0 0)) (isKeys xk 0 _ _ rfl rfl rfl) (isKeys xk 1 _ _ rfl rfl rfl) (isKeys xk 2 _ _ rfl rfl rfl)
    (isKeys xk 3 _ _ rfl rfl rfl)
    (fun _ _ => rfl : IsValues xv 0 (valuesOf xv 0)) (fun _ _ => rfl : IsValues xv 1 (valuesOf xv 1))
    (fun _ _ => rfl : IsValues xv 2 (valuesOf xv 2)) (fun _ _ => rfl : IsValues xv 3 (valuesOf xv 3))
    (fun _ _ => rfl : IsQueries xq 0 (queriesOf xq 0)) (fun _ _ => rfl : IsQueries xq 1 (queriesOf xq 1)) r h g l

end Loads

/-! ## The array -/

variable (m : (ℓ : Loc nD τ sig) → Buf (Elt F) ℓ) (c : Dev nD)

/-- The grid point of batch entry `b` and query tile `j`. -/
def point (b : Fin 8) (j : Fin 16) : Fin cfg0.N := ⟨16 * b.val + j.val, by show _ < 128; omega⟩

/-- Where each window's block lies at a grid point. -/
theorem index_at : ∀ (b : Fin 8) (j : Fin 16),
    win0_0.index (point b j) = ![0, 0] ∧ win0_1.index (point b j) = ![b.val, 0, j.val, 0, 0]
      ∧ win0_2.index (point b j) = ![b.val, 0, 0] ∧ win0_3.index (point b j) = ![b.val, 0, 0, 0]
      ∧ win0_4.index (point b j) = ![b.val, j.val, 0] := by decide +kernel

/-- The query row `r` of tile `j`. -/
def row (j : Fin 16) (r : Fin 128) : Fin 2048 := ⟨128 * j.val + r.val, by omega⟩

theorem array_apply (b : Fin 8) (j : Fin 16) (r : Fin 128) (x : Fin 512) :
    (dats m 0 c).arrAt 4 cfg0.N (ix3 b (row j r) x)
      = out0_A_4 (F := F) c (grid0.coords (point b j)) (ms0_0 (point b j)) (hs0_0 (point b j)) (ms0_1 (point b j))
          (hs0_1 (point b j)) (ms0_2 (point b j)) (hs0_2 (point b j)) (ms0_3 (point b j)) (hs0_3 (point b j))
          (ms0_4 (point b j)) (hs0_4 (point b j)) scM0_0 (Memref.isWhole_whole _)
          (iblk m c 0 (point b j)) (iblk m c 1 (point b j)) (iblk m c 2 (point b j)) (iblk m c 3 (point b j)) (ix3 0 r x) := by
  have hf : (cfg0.win 4).flush (point b j) = true := by
    have h : ∀ (b : Fin 8) (j : Fin 16), (cfg0.win 4).flush (point b j) = true := by decide +kernel
    exact h b j
  have e := congrFun (Value.blocks4 m c (point b j) hf) (ix3 0 r x)
  rw [Value.flushed4_A m c (point b j)] at e
  have h4 := (index_at b j).2.2.2.2
  refine Eq.trans (congrArg _ ?_) e
  blk_ext [row, h4]

theorem key_block (b : Fin 8) (j : Fin 16) (k : Fin 2048) (d : Fin 128) :
    iblk m c 2 (point b j) (ix3 0 k d) = m ((c : Thread nD τ).loc main_arg2) (ix3 b k d) := by
  have h := index_at b j
  blk_ext [iblk, V, h]

theorem query_block (b : Fin 8) (j : Fin 16) (h : Fin 2) (d : Fin 128) (r : Fin 512) :
    iblk m c 1 (point b j) (ix5 0 h 0 d r) = m ((c : Thread nD τ).loc main_arg1) (ix5 b h j d r) := by
  have h := index_at b j
  blk_ext [iblk, V, h]

theorem value_block (b : Fin 8) (j : Fin 16) (n : Fin 4) (d : Fin 128) (k : Fin 512) :
    iblk m c 3 (point b j) (ix4 0 n d k) = m ((c : Thread nD τ).loc main_arg3) (ix4 b n d k) := by
  have h := index_at b j
  blk_ext [iblk, V, h]

theorem bound_block (b : Fin 8) (j : Fin 16) :
    iblk m c 0 (point b j) (ix2 0 0) = m ((c : Thread nD τ).loc main_arg0) (ix2 0 0) := by
  have h := index_at b j
  blk_ext [iblk, V, h]

end Cert.AttentionIdeal.Block

end
-- ==== Proof.AttentionRef.lean ====
module

public import proofs.«01_k».proof.Proof.Gen.SoftmaxIdeal.Read
public import Idealize.ShloMosaic.Lib.Pointwise

@[expose] public section

set_option maxRecDepth 16384

noncomputable section

/-! # What the attention's reference computes, at one element -/

namespace Cert.SoftmaxIdeal.Softmax

open Cert.SoftmaxIdeal Cert.SoftmaxIdeal.Gen Cert.SoftmaxIdeal.Read Idealize.ShloMosaic Idealize.SL.Sem

/-- The instance in which a float is an extended real. -/
abbrev F := Idealize.ShloMosaic.Ideal

variable (xq : S8x2x16x128x512.Idx → EReal) (xk : S8x2048x128.Idx → EReal) (xv : S8x4x128x512.Idx → EReal)

/-- The value the maximum starts from is `-∞` … -/
theorem ofBits_bot : Idealize.ShloMosaic.Ideal.ofBits .f32 0xFF800000#32 = ⊥ := by
  simp [Idealize.ShloMosaic.Ideal.ofBits, Idealize.ShloMosaic.Ideal.ieee]

/-- … and the base of the powers is two. -/
theorem ofBits_two : Idealize.ShloMosaic.Ideal.ofBits .f32 0x40000000#32 = 2 := by
  simp [Idealize.ShloMosaic.Ideal.ofBits, Idealize.ShloMosaic.Ideal.ieee, -EReal.coe_mul]
  norm_num
  rfl

/-- The score of query `q` of head `g` of key head `h` against key `k`. -/
def score (b : Fin 8) (h : Fin 2) (g : Fin 4) (q k : Fin 2048) : EReal :=
  ∑ d : Fin 128, xk (ix3 b k d) * xq (ix5 b h ⟨q.val / 128, by omega⟩ d ⟨g.val * 128 + q.val % 128, by omega⟩)

/-- The largest of a query's scores. -/
def peak (b : Fin 8) (h : Fin 2) (g : Fin 4) (q : Fin 2048) : EReal :=
  Finset.univ.fold max ⊥ fun k => score xq xk b h g q k

/-- The reference's scores. -/
theorem scores (b : Fin 8) (h : Fin 2) (g : Fin 4) (q k : Fin 2048) :
    val_main_v9 (F := F) xq xk (ix5 b h g q k) = score xq xk b h g q k := by
  unfold val_main_v9 val_main_v8 val_main_v3 val_main_v2 val_main_v1 val_main_v0 val_main_v4
  pointwise [score]

/-- The reference's maxima. -/
theorem peaks (b : Fin 8) (h : Fin 2) (g : Fin 4) (q : Fin 2048) :
    val_main_v11 (F := F) xq xk (ix4 b h g q) = peak xq xk b h g q := by
  unfold val_main_v11 val_main_cst_0
  have e : ∀ k, val_main_v9 (F := F) xq xk (ix5 b h g q k) = score xq xk b h g q k := scores xq xk b h g q
  revert e
  generalize val_main_v9 (F := F) xq xk = S
  intro e
  pointwise [peak, ofBits_bot]
  simp only [e]

/-- The reference's values, taken from where the keys lie in four blocks. -/
theorem values (b : Fin 8) (k : Fin 2048) (h : Fin 2) (l : Fin 64) :
    val_main_v7 (F := F) xv (ix4 b k h l) = xv (ix4 b ⟨k.val / 512, by omega⟩ ⟨h.val * 64 + l.val, by omega⟩ ⟨k.val % 512, by omega⟩) := by
  unfold val_main_v7 val_main_v6 val_main_v5
  pointwise

/-- The reference's unnormalised weights. -/
theorem powers (b : Fin 8) (h : Fin 2) (g : Fin 4) (q k : Fin 2048) :
    val_main_v15 (F := F) xq xk (ix5 b h g q k)
      = Idealize.ShloMosaic.Ideal.pow 2 (score xq xk b h g q k - peak xq xk b h g q) := by
  unfold val_main_v15 val_main_v14 val_main_v13 val_main_v12 val_main_v10 val_main_cst
  rw [← scores, ← peaks]
  generalize val_main_v9 (F := F) xq xk = S
  generalize val_main_v11 (F := F) xq xk = M
  pointwise [ofBits_two]

/-- THE REFERENCE: the values weighted by the powers over their sum. -/
theorem result (b : Fin 8) (q : Fin 2048) (h : Fin 2) (g : Fin 4) (l : Fin 64) :
    val_main_v25 (F := F) xq xk xv (ix3 b q ⟨256 * h.val + 64 * g.val + l.val, by omega⟩)
      = ∑ k, xv (ix4 b ⟨k.val / 512, by omega⟩ ⟨h.val * 64 + l.val, by omega⟩ ⟨k.val % 512, by omega⟩)
          * Idealize.ShloMosaic.Ideal.div (Idealize.ShloMosaic.Ideal.pow 2 (score xq xk b h g q k - peak xq xk b h g q))
            (∑ j, Idealize.ShloMosaic.Ideal.pow 2 (score xq xk b h g q j - peak xq xk b h g q)) := by
  have e1 : (256 * h.val + 64 * g.val + l.val) / 256 = h.val := by omega
  have e2 : (256 * h.val + 64 * g.val + l.val) / 64 % 4 = g.val := by omega
  have e3 : (256 * h.val + 64 * g.val + l.val) % 64 = l.val := by omega
  unfold val_main_v25 val_main_v24 val_main_v23 val_main_v22 val_main_v21 val_main_v20 val_main_v19 val_main_v18
    val_main_v17 val_main_v16 val_main_cst_1
  simp only [← powers, ← values]
  generalize val_main_v15 (F := F) xq xk = P
  generalize val_main_v7 (F := F) xv = V
  pointwise [e1, e2, e3]

end Cert.SoftmaxIdeal.Softmax

end
-- ==== Proof.Softmax.lean ====
module

public import Idealize.ShloMosaic.PureOps.Ideal.Laws

@[expose] public section

noncomputable section

/-! # The softmax quotient does not depend on the amount subtracted from the scores

A softmax-weighted sum may be written with each weight normalised first, or with one division at the end; and the
number subtracted from the scores before the exponential (their maximum, or any bound) may be any real number. Both
are proved here over the extended reals, where the values being averaged may be infinite. -/

namespace Cert.Softmax

open Idealize.ShloMosaic

variable {ι : Type} [Fintype ι]

/-- An extended real that is neither infinity. -/
def Finite (x : EReal) : Prop := ∃ r : ℝ, x = (r : EReal)

/-- A sum of reals, taken in the extended reals, is the real sum. -/
theorem coe_sum (r : ι → ℝ) : ((∑ i, r i : ℝ) : EReal) = ∑ i, (r i : EReal) :=
  map_sum (⟨⟨fun x : ℝ => (x : EReal), EReal.coe_zero⟩, EReal.coe_add⟩ : ℝ →+ EReal) r Finset.univ

/-- A finite sum of finite numbers is finite. -/
theorem finite_sum (f : ι → EReal) (hf : ∀ i, Finite (f i)) : Finite (∑ i, f i) := by
  choose r hr using hf
  exact ⟨∑ i, r i, by simp only [hr, coe_sum]⟩

/-- A product of finite numbers is finite. -/
theorem finite_mul {x y : EReal} (hx : Finite x) (hy : Finite y) : Finite (x * y) := by
  obtain ⟨a, rfl⟩ := hx; obtain ⟨b, rfl⟩ := hy
  exact ⟨a * b, (EReal.coe_mul a b).symm⟩

/-- The maximum of finitely many finite numbers, taken from `-∞`, is finite where there is at least one. -/
theorem finite_fold_max [Nonempty ι] (f : ι → EReal) (hf : ∀ i, Finite (f i)) : Finite (Finset.univ.fold max ⊥ f) := by
  have hlt : Finset.univ.fold max ⊥ f < ⊤ := Finset.fold_max_lt _ |>.mpr
    ⟨bot_lt_top, fun i _ => by obtain ⟨r, hr⟩ := hf i; rw [hr]; exact EReal.coe_lt_top r⟩
  have hgt : ⊥ < Finset.univ.fold max ⊥ f := Finset.lt_fold_max _ |>.mpr
    (Or.inr ⟨Classical.arbitrary ι, Finset.mem_univ _, by obtain ⟨r, hr⟩ := hf (Classical.arbitrary ι); rw [hr]; exact EReal.bot_lt_coe r⟩)
  exact ⟨_, (EReal.coe_toReal hlt.ne hgt.ne').symm⟩

/-- A nonnegative real factor distributes over a sum of extended reals. -/
theorem sum_mul_real {r : ℝ} (hr : 0 ≤ r) (f : ι → EReal) : (∑ i, f i) * (r : EReal) = ∑ i, f i * (r : EReal) := by
  classical
  induction (Finset.univ : Finset ι) using Finset.induction with
  | empty => simp
  | insert a s ha ih =>
    rw [Finset.sum_insert ha, Finset.sum_insert ha, ← ih]
    exact EReal.right_distrib_of_nonneg_of_ne_top (EReal.coe_nonneg.mpr hr) (EReal.coe_ne_top r) _ _

/-- THE EQUATION. For finite scores `s`, finite shifts `c` and `M`, and any values `v`: the weighted sum with the
    unnormalised weights `2 ^ (s - c)`, divided at the end by their total, is the sum weighted by the normalised
    weights `2 ^ (s - M) / ∑ 2 ^ (s - M)`. -/
theorem shift_invariant [Nonempty ι] (s : ι → EReal) (c M : EReal) (v : ι → EReal) (hs : ∀ i, Finite (s i))
    (hc : Finite c) (hM : Finite M) :
    Ideal.div (∑ i, v i * Ideal.exp2 (s i - c)) (∑ i, Ideal.exp2 (s i - c))
      = ∑ i, v i * Ideal.div (Ideal.pow 2 (s i - M)) (∑ j, Ideal.pow 2 (s j - M)) := by
  choose t ht using hs
  obtain ⟨c, rfl⟩ := hc; obtain ⟨M, rfl⟩ := hM
  have he : ∀ i, Ideal.exp2 (s i - (c : EReal)) = ((Real.rpow 2 (t i - c) : ℝ) : EReal) := fun i => by
    rw [ht, ← EReal.coe_sub, Ideal.exp2_coe]
  have hp : ∀ i, Ideal.pow 2 (s i - (M : EReal)) = ((Real.rpow 2 (t i - M) : ℝ) : EReal) := fun i => by
    rw [ht, ← EReal.coe_sub]; exact Ideal.pow_coe_coe 2 (t i - M)
  simp only [he, hp]
  have hpos : ∀ x : ℝ, 0 < Real.rpow 2 x := fun x => Real.rpow_pos_of_pos two_pos x
  have hA : 0 < ∑ i, Real.rpow 2 (t i - c) := Finset.sum_pos (fun i _ => hpos _) Finset.univ_nonempty
  have hB : 0 < ∑ i, Real.rpow 2 (t i - M) := Finset.sum_pos (fun i _ => hpos _) Finset.univ_nonempty
  rw [← coe_sum, ← coe_sum, Ideal.div_coe hA.ne', sum_mul_real (by positivity)]
  refine Finset.sum_congr rfl fun i _ => ?_
  rw [Ideal.div_coe hB.ne', mul_assoc]
  congr 1
  rw [← EReal.coe_mul, ← EReal.coe_mul, EReal.coe_eq_coe_iff]
  have hsc : ∀ j, Real.rpow 2 (t j - c) = Real.rpow 2 (M - c) * Real.rpow 2 (t j - M) := fun j => by
    have := Real.rpow_add (x := 2) two_pos (M - c) (t j - M)
    rw [show M - c + (t j - M) = t j - c by ring] at this
    exact this
  simp only [hsc, ← Finset.mul_sum]
  have := (hpos (M - c)).ne'
  field_simp

end Cert.Softmax

end
-- ==== Proof.AttentionEquation.lean ====
module

public import proofs.«01_k».proof.Proof.AttentionValue
public import proofs.«01_k».proof.Proof.AttentionRef
public import proofs.«01_k».proof.Proof.Softmax

@[expose] public section

set_option maxRecDepth 16384

noncomputable section

/-! # The attention kernel's result is the reference's -/

namespace Cert.AttentionIdeal.Block

open Cert.AttentionIdeal Cert.AttentionIdeal.Gen Idealize.ShloMosaic Idealize.ShloMosaic.TcCoe Idealize.SL.Sem

/-! ## A block of the arguments against the reference -/

section Blocks

variable {xq : S8x2x16x128x512.Idx → EReal} {xk : S8x2048x128.Idx → EReal} {xv : S8x4x128x512.Idx → EReal}
  {bq : S1x2x1x128x512.Idx → EReal} {bk : S1x2048x128.Idx → EReal} {bv : S1x4x128x512.Idx → EReal} {b : Fin 8} {j : Fin 16}

/-- An element of the result, by batch entry, query tile, row, key head, group member and value lane. -/
theorem index_cases (i : S8x2048x512.Idx) :
    ∃ (b : Fin 8) (j : Fin 16) (r : Fin 128) (h : Fin 2) (g : Fin 4) (l : Fin 64), i = ix3 b (row j r) (outLane h g l) := by
  obtain ⟨b, q, x, rfl⟩ : ∃ (b : Fin 8) (q : Fin 2048) (x : Fin 512), i = ix3 b q x :=
    ⟨i 0, i 1, i 2, funext fun a => by fin_cases a <;> rfl⟩
  obtain ⟨j, r, rfl⟩ : ∃ (j : Fin 16) (r : Fin 128), q = row j r :=
    ⟨⟨q.val / 128, by omega⟩, ⟨q.val % 128, by omega⟩, Fin.ext (by simp only [row]; omega)⟩
  obtain ⟨h, g, l, rfl⟩ : ∃ (h : Fin 2) (g : Fin 4) (l : Fin 64), x = outLane h g l :=
    ⟨⟨x.val / 256, by omega⟩, ⟨x.val / 64 % 4, by omega⟩, ⟨x.val % 64, by omega⟩,
      Fin.ext (by simp only [outLane]; omega)⟩
  exact ⟨b, j, r, h, g, l, rfl⟩

/-- A block's scores are the reference's. -/
theorem score_at (hq : ∀ h d r, bq (ix5 0 h 0 d r) = xq (ix5 b h j d r)) (hk : ∀ k d, bk (ix3 0 k d) = xk (ix3 b k d))
    (r : Fin 128) (h : Fin 2) (g : Fin 4) (k : Fin 2048) :
    score bq bk h (col g r) k = Cert.SoftmaxIdeal.Softmax.score xq xk b h g (row j r) k := by
  unfold score Cert.SoftmaxIdeal.Softmax.score
  refine Finset.sum_congr rfl fun d _ => congrArg₂ (· * ·) (hk k d) ((hq h d (col g r)).trans ?_)
  have e1 : (⟨(row j r).val / 128, by omega⟩ : Fin 16) = j := Fin.ext (by simp only [row]; omega)
  have e2 : (⟨g.val * 128 + (row j r).val % 128, by omega⟩ : Fin 512) = col g r :=
    Fin.ext (by simp only [row, col]; omega)
  rw [e1, e2]

/-- A block's values are the reference's. -/
theorem value_at (hv : ∀ n d k, bv (ix4 0 n d k) = xv (ix4 b n d k)) (h : Fin 2) (l : Fin 64) (k : Fin 2048) :
    value bv (valLane h l) k = xv (ix4 b ⟨k.val / 512, by omega⟩ ⟨h.val * 64 + l.val, by omega⟩ ⟨k.val % 512, by omega⟩) := by
  refine (hv _ _ _).trans (congrArg xv ?_)
  have e : valLane h l = ⟨h.val * 64 + l.val, by omega⟩ := Fin.ext (by simp only [valLane]; omega)
  rw [e]

variable (xq xk xv)

/-- The weighted values over the weights, for any finite number subtracted from the scores, are the reference's result. -/
theorem quotient_eq (hq : ∀ i, Softmax.Finite (xq i)) (hk : ∀ i, Softmax.Finite (xk i)) (b : Fin 8) (j : Fin 16) (r : Fin 128)
    (h : Fin 2) (g : Fin 4) (l : Fin 64) {M : EReal} (hM : Softmax.Finite M) :
    Idealize.ShloMosaic.Ideal.div
        (∑ k : Fin 2048, xv (ix4 b ⟨k.val / 512, by omega⟩ ⟨h.val * 64 + l.val, by omega⟩ ⟨k.val % 512, by omega⟩)
          * Idealize.ShloMosaic.Ideal.exp2 (Cert.SoftmaxIdeal.Softmax.score xq xk b h g (row j r) k - M))
        (∑ k, Idealize.ShloMosaic.Ideal.exp2 (Cert.SoftmaxIdeal.Softmax.score xq xk b h g (row j r) k - M))
      = Cert.SoftmaxIdeal.Read.val_main_v25 (F := F) xq xk xv (ix3 b (row j r) (outLane h g l)) := by
  have hs : ∀ k, Softmax.Finite (Cert.SoftmaxIdeal.Softmax.score xq xk b h g (row j r) k) :=
    fun k => Softmax.finite_sum _ fun d => Softmax.finite_mul (hk _) (hq _)
  exact (Softmax.shift_invariant _ _ _ _ hs hM (Softmax.finite_fold_max _ hs)).trans
    (Cert.SoftmaxIdeal.Softmax.result xq xk xv b (row j r) h g l).symm

end Blocks

/-! ## The array -/

variable (m : (ℓ : Loc nD τ sig) → Buf (Elt F) ℓ) (c : Dev nD)

/-- The queries, the keys and the values as the kernel is given them. -/
abbrev queries : S8x2x16x128x512.Idx → EReal := m ((c : Thread nD τ).loc main_arg1)
abbrev keys : S8x2048x128.Idx → EReal := m ((c : Thread nD τ).loc main_arg2)
abbrev vals : S8x4x128x512.Idx → EReal := m ((c : Thread nD τ).loc main_arg3)
abbrev bound : S1x1.Idx → EReal := m ((c : Thread nD τ).loc main_arg0)

/-- THE EQUATION, where what is subtracted, the queries and the keys are finite. -/
theorem array_eq (hb : ∀ i, Softmax.Finite (bound m c i)) (hq : ∀ i, Softmax.Finite (queries m c i))
    (hk : ∀ i, Softmax.Finite (keys m c i)) :
    (dats m 0 c).arrAt 4 cfg0.N
      = Cert.SoftmaxIdeal.Read.val_main_v25 (F := F) (queries m c) (keys m c) (vals m c) := by
  funext i
  obtain ⟨b, j, r, h, g, l, rfl⟩ := index_cases i
  refine (array_apply m c b j r (outLane h g l)).trans ((block_apply _ _ _ c (point b j) _ r h g l).trans ?_)
  unfold weight
  simp only [score_at (query_block m c b j) (key_block m c b j), value_at (value_block m c b j), bound_block]
  exact quotient_eq _ _ _ hq hk b j r h g l (hb _)

end Cert.AttentionIdeal.Block

end
-- ==== Proof.Finite.lean ====
module

public import proofs.«01_k».proof.Pre_finite_arguments
public import proofs.«01_k».proof.Proof.Softmax
public import Idealize.ShloMosaic.Lib.ReduceAll
public import Idealize.ShloMosaic.Lib.Affine
public import Idealize.ShloMosaic.Lib.Pointwise

@[expose] public section

noncomputable section

/-! # What the precondition says: the arguments are finite -/

namespace Cert.Pre_finite_arguments

open Idealize.ShloMosaic

/-- The side conditions of the precondition's operations. -/
theorem facts : Facts where
  bcast_S_S1x1 := by decide
  reducesTo_S1x1_S_d0_1 := by decide
  h_S_ := by decide
  bitsLt_bf16_f32 := by decide
  bcast_S_S8x2x16x128x512 := by decide
  reducesTo_S8x2x16x128x512_S_d0_1_2_3_4 := by decide
  bcast_S_S8x2048x128 := by decide
  reducesTo_S8x2048x128_S_d0_1_2 := by decide

theorem ofBits_top : Idealize.ShloMosaic.Ideal.ofBits .f32 0x7F800000#32 = ⊤ := by
  simp [Idealize.ShloMosaic.Ideal.ofBits, Idealize.ShloMosaic.Ideal.ieee]

/-- An extended real whose absolute value is below `∞` is finite. -/
theorem finite_of_abs (x : EReal) (h : Idealize.ShloMosaic.Ideal.cmp .olt (max x (-x))
    (Idealize.ShloMosaic.Ideal.ofBits .f32 0x7F800000#32) = 1#1) : Softmax.Finite x := by
  rw [ofBits_top] at h
  have hlt : max x (-x) < ⊤ := by
    by_contra hn
    simp [Idealize.ShloMosaic.Ideal.cmp, hn] at h
  have h1 : x ≠ ⊤ := fun e => by simp [e] at hlt
  have h2 : x ≠ ⊥ := fun e => by simp [e] at hlt
  exact ⟨x.toReal, (EReal.coe_toReal h1 h2).symm⟩

attribute [local instance] facts

instance : Subsingleton S_.Idx := ⟨fun _ _ => funext fun a => a.elim0⟩

/-- The precondition gives that the number subtracted, the queries and the keys are finite. -/
theorem finite (b : S1x1.Idx → EReal) (xq : S8x2x16x128x512.Idx → EReal) (xk : S8x2048x128.Idx → EReal)
    (xv : S8x4x128x512.Idx → EReal) (h : fn (F := Idealize.ShloMosaic.Ideal) b xq xk xv = fun _ => 1#1) :
    (∀ i, Softmax.Finite (b i)) ∧ (∀ i, Softmax.Finite (xq i)) ∧ ∀ i, Softmax.Finite (xk i) := by
  have h0 := congrFun h (Shape.Idx.first facts.h_S_)
  dsimp only [fn] at h0
  obtain ⟨h1, h2⟩ := IntOp.andi_eq_one.1 h0
  obtain ⟨h3, h4⟩ := IntOp.andi_eq_one.1 h1
  exact ⟨fun i => finite_of_abs _ (Host.reduce_andi_all _ _ _ _ _ h3 i),
    fun i => finite_of_abs _ (Host.reduce_andi_all _ _ _ _ _ h4 i),
    fun i => finite_of_abs _ (Host.reduce_andi_all _ _ _ _ _ h2 i)⟩

end Cert.Pre_finite_arguments

end
-- ==== Proof.AttentionClaims.lean ====
module

public import proofs.«01_k».proof.Defs
public import proofs.«01_k».proof.Proof.Gen.Attention.Frame
public import proofs.«01_k».proof.Proof.AttentionEquation
public import proofs.«01_k».proof.Proof.Finite
public import Idealize.ShloMosaic.Lib.Quiescent

@[expose] public section

noncomputable section

/-! # The attention: the kernel and its reference, claim by claim -/

namespace Cert.Proof.Attention

open Idealize.ShloMosaic Idealize.SL.Sem

attribute [local instance] Cert.Pre_finite_arguments.facts

/-- The reference runs, leaves its arguments alone and declares no semaphore. -/
theorem reference_frame (m : (ℓ : Loc SoftmaxIdeal.nD SoftmaxIdeal.τ SoftmaxIdeal.sig) → Buf (Elt Ideal) ℓ)
    (g : Dev SoftmaxIdeal.nD → PrngReg) :
    θ_run (SoftmaxIdeal.defs (F := Ideal)) (onTc (τ := SoftmaxIdeal.τ) (SoftmaxIdeal.main (F := Ideal)))
      ⟨m, fun _ => 0, g⟩ fun r => (∀ c : Dev SoftmaxIdeal.nD,
        r.2.mem ((c.tc : Thread SoftmaxIdeal.nD SoftmaxIdeal.τ).loc SoftmaxIdeal.main_arg0) = m ((c.tc : Thread _ _).loc SoftmaxIdeal.main_arg0)
        ∧ r.2.mem ((c.tc : Thread SoftmaxIdeal.nD SoftmaxIdeal.τ).loc SoftmaxIdeal.main_arg1) = m ((c.tc : Thread _ _).loc SoftmaxIdeal.main_arg1)
        ∧ r.2.mem ((c.tc : Thread SoftmaxIdeal.nD SoftmaxIdeal.τ).loc SoftmaxIdeal.main_arg2) = m ((c.tc : Thread _ _).loc SoftmaxIdeal.main_arg2)
        ∧ r.2.mem ((c.tc : Thread SoftmaxIdeal.nD SoftmaxIdeal.τ).loc SoftmaxIdeal.main_arg3) = m ((c.tc : Thread _ _).loc SoftmaxIdeal.main_arg3))
        ∧ r.2.sem = fun _ => 0 :=
  (θ_run _ _ _).mono (fun r h => ⟨fun c => (h c).2, sem_eq_zero_of_no_sems rfl r.2⟩) (SoftmaxIdeal.Value.run m g)

/-- THE VALUE: where the precondition holds both programs run and leave the same array. -/
theorem algebraic : algebraic_AttentionIdeal_SoftmaxIdeal_pre_finite_arguments := by
  intro m g m' g' hpre hag
  refine ⟨fun c => (AttentionIdeal.Gen.dats m 0 c).arrAt 4 AttentionIdeal.cfg0.N, AttentionIdeal.Value.run_blocks m g, ?_⟩
  refine (θ_run _ _ _).mono (fun r h c => ⟨(h c).1.trans ?_, (h c).2⟩) (SoftmaxIdeal.Value.run m' g')
  obtain ⟨hb, hq, hk⟩ := Pre_finite_arguments.finite _ _ _ _ (hpre c)
  have e := AttentionIdeal.Block.array_eq m c hb hq hk
  obtain ⟨-, e1, e2, e3⟩ := hag c
  refine (SoftmaxIdeal.Read.val_main_v25_eq _ _ _).trans (Eq.trans ?_ e.symm)
  rw [e1, e2, e3]

end Cert.Proof.Attention

end
-- ==== Proof.Projection.lean ====
module

public import proofs.«01_k».proof.Proof.Gen.ProjectionIdeal.Value
public import proofs.«01_k».proof.Proof.Gen.ProjectedIdeal.Read
public import Idealize.ShloMosaic.Lib.Pipeline.ValueKit
public import Idealize.ShloMosaic.Lib.Pointwise

@[expose] public section

set_option maxRecDepth 16384

noncomputable section

/-! # The input projection: the kernel's array is the reference's

Both sides come to `cell`, an entry of the normalised and modulated token times the weights. -/

namespace Cert.Projection.Entry

open Idealize.ShloMosaic

/-- One entry, from a token, the norm's gain, the modulation's scale and shift, and a column of the weights. -/
def cell (x g s z w : Fin 1024 → EReal) : EReal :=
  ∑ d, (x d * Idealize.ShloMosaic.Ideal.rsqrt
      (Idealize.ShloMosaic.Ideal.div (∑ e, x e * x e) (Idealize.ShloMosaic.Ideal.ofBits .f32 0x44800000#32)
        + Idealize.ShloMosaic.Ideal.ofBits .f32 0x358637BD#32) * g d * (1 + s d) + z d) * w d

end Cert.Projection.Entry

namespace Cert.ProjectionIdeal.Entry

open Cert.ProjectionIdeal Cert.ProjectionIdeal.Gen Idealize.ShloMosaic Idealize.ShloMosaic.TcCoe Idealize.SL.Sem
open Cert.Projection.Entry

abbrev F := Idealize.ShloMosaic.Ideal

theorem payload (x : S1x512x1024.Idx → EReal) (g s z : S1x1x1024.Idx → EReal) (w : S1x1024x3328.Idx → EReal) (r : Fin 512)
    (l : Fin 3328) : k0_pay1 (F := F) x g s z w (ix3 0 r l)
      = cell (fun d => x (ix3 0 r d)) (fun d => g (ix3 0 0 d)) (fun d => s (ix3 0 0 d)) (fun d => z (ix3 0 0 d))
          (fun d => w (ix3 0 d l)) := by
  pointwise [k0_pay1, cell]

theorem out_apply (x : S1x512x1024.Idx → EReal) (m : S1x6x1024.Idx → EReal) (g : S1x1x1024.Idx → EReal)
    (w : S1x1024x3328.Idx → EReal) (r : Fin 512) (l : Fin 3328) : out0_4 (F := F) x m g w (ix3 0 r l)
      = cell (fun d => x (ix3 0 r d)) (fun d => g (ix3 0 0 d)) (fun d => m (ix3 0 1 d)) (fun d => m (ix3 0 0 d))
          (fun d => w (ix3 0 d l)) := by
  frame_out
  refine (payload ..).trans ?_
  refine congrArg₂ (fun s z => cell _ _ s z _) (funext fun d => congrArg m ?_) (funext fun d => congrArg m ?_)
  all_goals
    refine funext fun a => Fin.ext ((Rect.idx_unit_val _ _ _ _ a).trans ?_)
    fin_cases a
  exacts [rfl, rfl, Nat.zero_add _, rfl, rfl, Nat.zero_add _]

/-! ## The array -/

variable (m : (ℓ : Loc nD τ sig) → Buf (Elt F) ℓ) (c : Dev nD)

/-- The grid point of batch entry `b` and row tile `j`. -/
def point (b : Fin 8) (j : Fin 4) : Fin cfg0.N := ⟨4 * b.val + j.val, by show _ < 32; omega⟩

/-- Where each window's block lies at a grid point. -/
theorem index_at : ∀ (b : Fin 8) (j : Fin 4),
    win0_0.index (point b j) = ![b.val, j.val, 0] ∧ win0_1.index (point b j) = ![b.val, 0, 0]
      ∧ win0_2.index (point b j) = ![0, 0, 0] ∧ win0_3.index (point b j) = ![0, 0, 0]
      ∧ win0_4.index (point b j) = ![b.val, j.val, 0] := by decide +kernel

/-- Row `r` of tile `j`. -/
def row (j : Fin 4) (r : Fin 512) : Fin 2048 := ⟨512 * j.val + r.val, by omega⟩

theorem array_block (b : Fin 8) (j : Fin 4) (r : Fin 512) (l : Fin 3328) :
    (dats m 0 c).arrAt 4 cfg0.N (ix3 b (row j r) l)
      = out0_4 (F := F) (iblk m c 0 (point b j)) (iblk m c 1 (point b j)) (iblk m c 2 (point b j)) (iblk m c 3 (point b j))
          (ix3 0 r l) := by
  have hf : (cfg0.win 4).flush (point b j) = true := by
    have h : ∀ (b : Fin 8) (j : Fin 4), (cfg0.win 4).flush (point b j) = true := by decide +kernel
    exact h b j
  have e := congrFun (Value.blocks4 m c (point b j) hf) (ix3 0 r l)
  rw [Value.flushed4 m c (point b j)] at e
  have h4 := (index_at b j).2.2.2.2
  refine Eq.trans (congrArg _ ?_) e
  blk_ext [row, h4]

theorem token_block (b : Fin 8) (j : Fin 4) (r : Fin 512) (d : Fin 1024) :
    iblk m c 0 (point b j) (ix3 0 r d) = m ((c : Thread nD τ).loc main_arg0) (ix3 b (row j r) d) := by
  have h := index_at b j
  blk_ext [iblk, V, row, h]

theorem mod_block (b : Fin 8) (j : Fin 4) (k : Fin 6) (d : Fin 1024) :
    iblk m c 1 (point b j) (ix3 0 k d) = m ((c : Thread nD τ).loc main_arg1) (ix3 ⟨b.val, by omega⟩ k d) := by
  have h := index_at b j
  blk_ext [iblk, V, h]

theorem gain_block (b : Fin 8) (j : Fin 4) (d : Fin 1024) :
    iblk m c 2 (point b j) (ix3 0 0 d) = m ((c : Thread nD τ).loc main_arg2) (ix3 0 0 d) := by
  have h := index_at b j
  blk_ext [iblk, V, h]

theorem weight_block (b : Fin 8) (j : Fin 4) (d : Fin 1024) (l : Fin 3328) :
    iblk m c 3 (point b j) (ix3 0 d l) = m ((c : Thread nD τ).loc main_arg3) (ix3 0 d l) := by
  have h := index_at b j
  blk_ext [iblk, V, h]

/-- An entry of the array the kernel leaves. -/
theorem array_apply (b : Fin 8) (j : Fin 4) (r : Fin 512) (l : Fin 3328) :
    (dats m 0 c).arrAt 4 cfg0.N (ix3 b (row j r) l)
      = cell (fun d => m ((c : Thread nD τ).loc main_arg0) (ix3 b (row j r) d))
          (fun d => m ((c : Thread nD τ).loc main_arg2) (ix3 0 0 d))
          (fun d => m ((c : Thread nD τ).loc main_arg1) (ix3 ⟨b.val, by omega⟩ 1 d))
          (fun d => m ((c : Thread nD τ).loc main_arg1) (ix3 ⟨b.val, by omega⟩ 0 d))
          (fun d => m ((c : Thread nD τ).loc main_arg3) (ix3 0 d l)) := by
  refine (array_block m c b j r l).trans ((out_apply _ _ _ _ r l).trans ?_)
  simp only [token_block, mod_block, gain_block, weight_block]

end Cert.ProjectionIdeal.Entry

namespace Cert.ProjectedIdeal.Entry

open Cert.ProjectedIdeal Cert.ProjectedIdeal.Gen Cert.ProjectedIdeal.Read Idealize.ShloMosaic Idealize.SL.Sem
open Cert.Projection.Entry

abbrev F := Idealize.ShloMosaic.Ideal

theorem result (x : S8x2048x1024.Idx → EReal) (m : S32x6x1024.Idx → EReal) (g : S2x1x1024.Idx → EReal)
    (w : S2x1024x3328.Idx → EReal) (b : Fin 8) (q : Fin 2048) (l : Fin 3328) :
    val_main_v31 (F := F) x m g w (ix3 b q l)
      = cell (fun d => x (ix3 b q d)) (fun d => g (ix3 0 0 d)) (fun d => m (ix3 ⟨b.val, by omega⟩ 1 d))
          (fun d => m (ix3 ⟨b.val, by omega⟩ 0 d)) (fun d => w (ix3 0 d l)) := by
  unfold val_main_v31 val_main_v30 val_main_v29 val_main_v28 val_main_v27 val_main_v26 val_main_v25 val_main_v24 val_main_v23
    val_main_v22 val_main_v21 val_main_cst_2 val_main_v20 val_main_v19 val_main_v18 val_main_v17 val_main_v16 val_main_v15
    val_main_v14 val_main_v13 val_main_cst_1 val_main_v12 val_main_v11 val_main_cst_0 val_main_v10 val_main_v9 val_main_cst
    val_main_v8 val_main_v7 val_main_v6 val_main_v5 val_main_v4 val_main_v3 val_main_v2 val_main_v1 val_main_v0
  pointwise [cell]

end Cert.ProjectedIdeal.Entry

namespace Cert.ProjectionIdeal.Entry

open Cert.ProjectionIdeal Cert.ProjectionIdeal.Gen Idealize.ShloMosaic Idealize.ShloMosaic.TcCoe Idealize.SL.Sem

/-- THE EQUATION: the kernel leaves what the reference computes. -/
theorem array_eq (m : (ℓ : Loc nD τ sig) → Buf (Elt F) ℓ) (c : Dev nD) :
    (dats m 0 c).arrAt 4 cfg0.N
      = Cert.ProjectedIdeal.Read.val_main_v31 (F := F) (m ((c : Thread nD τ).loc main_arg0)) (m ((c : Thread nD τ).loc main_arg1))
          (m ((c : Thread nD τ).loc main_arg2)) (m ((c : Thread nD τ).loc main_arg3)) := by
  funext i
  obtain ⟨b, q, l, rfl⟩ : ∃ (b : Fin 8) (q : Fin 2048) (l : Fin 3328), i = ix3 b q l :=
    ⟨i 0, i 1, i 2, funext fun a => by fin_cases a <;> rfl⟩
  obtain ⟨j, r, rfl⟩ : ∃ (j : Fin 4) (r : Fin 512), q = row j r :=
    ⟨⟨q.val / 512, by omega⟩, ⟨q.val % 512, by omega⟩, Fin.ext (by simp only [row]; omega)⟩
  exact (array_apply m c b j r l).trans (Cert.ProjectedIdeal.Entry.result _ _ _ _ b (row j r) l).symm

end Cert.ProjectionIdeal.Entry

end
-- ==== Proof.ProjectionClaims.lean ====
module

public import proofs.«01_k».proof.Defs
public import proofs.«01_k».proof.Proof.Gen.Projection.Frame
public import proofs.«01_k».proof.Proof.Gen.ProjectionIdeal.Frame
public import proofs.«01_k».proof.Proof.Projection
public import Idealize.ShloMosaic.Lib.Quiescent

@[expose] public section

noncomputable section

/-! # The input projection: the kernel and its reference, claim by claim -/

namespace Cert.Proof.Projection

open Idealize.ShloMosaic Idealize.SL.Sem

/-- The reference runs, leaves its arguments alone and declares no semaphore. -/
theorem reference_frame (m : (ℓ : Loc ProjectedIdeal.nD ProjectedIdeal.τ ProjectedIdeal.sig) → Buf (Elt Ideal) ℓ)
    (g : Dev ProjectedIdeal.nD → PrngReg) :
    θ_run (ProjectedIdeal.defs (F := Ideal)) (onTc (τ := ProjectedIdeal.τ) (ProjectedIdeal.main (F := Ideal)))
      ⟨m, fun _ => 0, g⟩ fun r => (∀ c : Dev ProjectedIdeal.nD,
        r.2.mem ((c.tc : Thread ProjectedIdeal.nD ProjectedIdeal.τ).loc ProjectedIdeal.main_arg0) = m ((c.tc : Thread _ _).loc ProjectedIdeal.main_arg0)
        ∧ r.2.mem ((c.tc : Thread ProjectedIdeal.nD ProjectedIdeal.τ).loc ProjectedIdeal.main_arg1) = m ((c.tc : Thread _ _).loc ProjectedIdeal.main_arg1)
        ∧ r.2.mem ((c.tc : Thread ProjectedIdeal.nD ProjectedIdeal.τ).loc ProjectedIdeal.main_arg2) = m ((c.tc : Thread _ _).loc ProjectedIdeal.main_arg2)
        ∧ r.2.mem ((c.tc : Thread ProjectedIdeal.nD ProjectedIdeal.τ).loc ProjectedIdeal.main_arg3) = m ((c.tc : Thread _ _).loc ProjectedIdeal.main_arg3))
        ∧ r.2.sem = fun _ => 0 :=
  (θ_run _ _ _).mono (fun r h => ⟨fun c => (h c).2, sem_eq_zero_of_no_sems rfl r.2⟩) (ProjectedIdeal.Value.run m g)

/-- THE VALUE: both programs run and leave the same array. -/
theorem algebraic : algebraic_ProjectionIdeal_ProjectedIdeal := by
  intro m g m' g' _ hag
  refine ⟨fun c => (ProjectionIdeal.Gen.dats m 0 c).arrAt 4 ProjectionIdeal.cfg0.N, ProjectionIdeal.Value.run_blocks m g, ?_⟩
  refine (θ_run _ _ _).mono (fun r h c => ⟨(h c).1.trans ?_, (h c).2⟩) (ProjectedIdeal.Value.run m' g')
  have e := ProjectionIdeal.Entry.array_eq m c
  obtain ⟨e0, e1, e2, e3⟩ := hag c
  refine (ProjectedIdeal.Read.val_main_v31_eq _ _ _ _).trans (Eq.trans ?_ e.symm)
  rw [e0, e1, e2, e3]

end Cert.Proof.Projection

end
-- ==== Proof.Modulation.lean ====
module

public import proofs.«01_k».proof.Proof.Gen.ModulationIdeal.Value
public import proofs.«01_k».proof.Proof.Gen.ConditionedIdeal.Read
public import Idealize.ShloMosaic.Lib.Pipeline.ValueKit
public import Idealize.ShloMosaic.Lib.Pointwise

@[expose] public section

set_option maxRecDepth 16384

noncomputable section

/-! # The modulation: the kernel's array is the reference's

Both sides come to `cell`, an entry of the gated conditioning times the weights, plus the bias. -/

namespace Cert.Modulation.Entry

open Idealize.ShloMosaic

/-- One entry, from a conditioning vector, a column of the weights and the bias. -/
def cell (c w : Fin 1024 → EReal) (b : EReal) : EReal :=
  ∑ d, c d * Idealize.ShloMosaic.Ideal.div 1 (1 + Idealize.ShloMosaic.Ideal.exp (-c d)) * w d + b

end Cert.Modulation.Entry

namespace Cert.ModulationIdeal.Entry

open Cert.ModulationIdeal Cert.ModulationIdeal.Gen Idealize.ShloMosaic Idealize.ShloMosaic.TcCoe Idealize.SL.Sem
open Cert.Modulation.Entry

abbrev F := Idealize.ShloMosaic.Ideal

theorem payload (c : S16x1024.Idx → EReal) (w : S1x1024x1024.Idx → EReal) (b : S1x1x1024.Idx → EReal) (r : Fin 16)
    (l : Fin 1024) : k0_pay1 (F := F) c w b (ix3 0 r l)
      = cell (fun d => c (ix2 r d)) (fun d => w (ix3 0 d l)) (b (ix3 0 0 l)) := by
  pointwise [k0_pay1, cell]
  simp only [zero_sub]

theorem out_apply (c : S16x1024.Idx → EReal) (w : S1x1024x1024.Idx → EReal) (b : S1x1x1024.Idx → EReal) (r : Fin 16)
    (l : Fin 1024) : out0_3 (F := F) c w b (ix3 0 r l)
      = cell (fun d => c (ix2 r d)) (fun d => w (ix3 0 d l)) (b (ix3 0 0 l)) := by
  frame_out
  exact payload ..

/-! ## The array -/

variable (m : (ℓ : Loc nD τ sig) → Buf (Elt F) ℓ) (c : Dev nD)

/-- The grid point of layer `n` and column tile `j`. -/
def point (n : Fin 2) (j : Fin 6) : Fin cfg0.N := ⟨6 * n.val + j.val, by show _ < 12; omega⟩

/-- Where each window's block lies at a grid point. -/
theorem index_at : ∀ (n : Fin 2) (j : Fin 6),
    win0_0.index (point n j) = ![0, 0] ∧ win0_1.index (point n j) = ![n.val, 0, j.val]
      ∧ win0_2.index (point n j) = ![n.val, 0, j.val] ∧ win0_3.index (point n j) = ![n.val, 0, j.val] := by decide +kernel

/-- Column `l` of tile `j`. -/
def col (j : Fin 6) (l : Fin 1024) : Fin 6144 := ⟨1024 * j.val + l.val, by omega⟩

theorem array_block (n : Fin 2) (j : Fin 6) (r : Fin 16) (l : Fin 1024) :
    (dats m 0 c).arrAt 3 cfg0.N (ix3 n r (col j l))
      = out0_3 (F := F) (iblk m c 0 (point n j)) (iblk m c 1 (point n j)) (iblk m c 2 (point n j)) (ix3 0 r l) := by
  have hf : (cfg0.win 3).flush (point n j) = true := by
    have h : ∀ (n : Fin 2) (j : Fin 6), (cfg0.win 3).flush (point n j) = true := by decide +kernel
    exact h n j
  have e := congrFun (Value.blocks3 m c (point n j) hf) (ix3 0 r l)
  rw [Value.flushed3 m c (point n j)] at e
  have h3 := (index_at n j).2.2.2
  refine Eq.trans (congrArg _ ?_) e
  blk_ext [col, h3]

theorem cond_block (n : Fin 2) (j : Fin 6) (r : Fin 16) (d : Fin 1024) :
    iblk m c 0 (point n j) (ix2 r d) = m ((c : Thread nD τ).loc main_arg0) (ix2 r d) := by
  have h := index_at n j
  blk_ext [iblk, V, h]

theorem weight_block (n : Fin 2) (j : Fin 6) (d l : Fin 1024) :
    iblk m c 1 (point n j) (ix3 0 d l) = m ((c : Thread nD τ).loc main_arg1) (ix3 n d (col j l)) := by
  have h := index_at n j
  blk_ext [iblk, V, col, h]

theorem bias_block (n : Fin 2) (j : Fin 6) (l : Fin 1024) :
    iblk m c 2 (point n j) (ix3 0 0 l) = m ((c : Thread nD τ).loc main_arg2) (ix3 n 0 (col j l)) := by
  have h := index_at n j
  blk_ext [iblk, V, col, h]

/-- An entry of the array the kernel leaves. -/
theorem array_apply (n : Fin 2) (j : Fin 6) (r : Fin 16) (l : Fin 1024) :
    (dats m 0 c).arrAt 3 cfg0.N (ix3 n r (col j l))
      = cell (fun d => m ((c : Thread nD τ).loc main_arg0) (ix2 r d))
          (fun d => m ((c : Thread nD τ).loc main_arg1) (ix3 n d (col j l)))
          (m ((c : Thread nD τ).loc main_arg2) (ix3 n 0 (col j l))) := by
  refine (array_block m c n j r l).trans ((out_apply _ _ _ r l).trans ?_)
  simp only [cond_block, weight_block, bias_block]

end Cert.ModulationIdeal.Entry

namespace Cert.ConditionedIdeal.Entry

open Cert.ConditionedIdeal Cert.ConditionedIdeal.Gen Cert.ConditionedIdeal.Read Idealize.ShloMosaic Idealize.SL.Sem
open Cert.Modulation.Entry

abbrev F := Idealize.ShloMosaic.Ideal

theorem result (c : S16x1024.Idx → EReal) (w : S2x1024x6144.Idx → EReal) (b : S2x1x6144.Idx → EReal) (n : Fin 2) (r : Fin 16)
    (l : Fin 6144) : val_main_v4 (F := F) c w b (ix3 n r l)
      = cell (fun d => c (ix2 r d)) (fun d => w (ix3 n d l)) (b (ix3 n 0 l)) := by
  unfold val_main_v4 val_main_v3 val_main_v2 val_main_v1 val_main_v0 val_main_call0_v5 val_main_call0_v4 val_main_call0_cst_0
    val_main_call0_v3 val_main_call0_v2 val_main_call0_cst val_main_call0_v1 val_main_call0_v0
  pointwise [cell]
  exact congrArg (· + _) (Finset.sum_congr rfl fun d _ => mul_comm _ _)

end Cert.ConditionedIdeal.Entry

namespace Cert.ModulationIdeal.Entry

open Cert.ModulationIdeal Cert.ModulationIdeal.Gen Idealize.ShloMosaic Idealize.ShloMosaic.TcCoe Idealize.SL.Sem

/-- THE EQUATION: the kernel leaves what the reference computes. -/
theorem array_eq (m : (ℓ : Loc nD τ sig) → Buf (Elt F) ℓ) (c : Dev nD) :
    (dats m 0 c).arrAt 3 cfg0.N
      = Cert.ConditionedIdeal.Read.val_main_v4 (F := F) (m ((c : Thread nD τ).loc main_arg0)) (m ((c : Thread nD τ).loc main_arg1))
          (m ((c : Thread nD τ).loc main_arg2)) := by
  funext i
  obtain ⟨n, r, x, rfl⟩ : ∃ (n : Fin 2) (r : Fin 16) (x : Fin 6144), i = ix3 n r x :=
    ⟨i 0, i 1, i 2, funext fun a => by fin_cases a <;> rfl⟩
  obtain ⟨j, l, rfl⟩ : ∃ (j : Fin 6) (l : Fin 1024), x = col j l :=
    ⟨⟨x.val / 1024, by omega⟩, ⟨x.val % 1024, by omega⟩, Fin.ext (by simp only [col]; omega)⟩
  exact (array_apply m c n j r l).trans (Cert.ConditionedIdeal.Entry.result _ _ _ n r (col j l)).symm

end Cert.ModulationIdeal.Entry

end
-- ==== Proof.ModulationClaims.lean ====
module

public import proofs.«01_k».proof.Defs
public import proofs.«01_k».proof.Proof.Gen.Modulation.Frame
public import proofs.«01_k».proof.Proof.Gen.ModulationIdeal.Frame
public import proofs.«01_k».proof.Proof.Modulation
public import Idealize.ShloMosaic.Lib.Quiescent

@[expose] public section

noncomputable section

/-! # The modulation table: the kernel and its reference, claim by claim -/

namespace Cert.Proof.Modulation

open Idealize.ShloMosaic Idealize.SL.Sem

/-- The reference runs, leaves its arguments alone and declares no semaphore. -/
theorem reference_frame (m : (ℓ : Loc ConditionedIdeal.nD ConditionedIdeal.τ ConditionedIdeal.sig) → Buf (Elt Ideal) ℓ)
    (g : Dev ConditionedIdeal.nD → PrngReg) :
    θ_run (ConditionedIdeal.defs (F := Ideal)) (onTc (τ := ConditionedIdeal.τ) (ConditionedIdeal.main (F := Ideal)))
      ⟨m, fun _ => 0, g⟩ fun r => (∀ c : Dev ConditionedIdeal.nD,
        r.2.mem ((c.tc : Thread ConditionedIdeal.nD ConditionedIdeal.τ).loc ConditionedIdeal.main_arg0) = m ((c.tc : Thread _ _).loc ConditionedIdeal.main_arg0)
        ∧ r.2.mem ((c.tc : Thread ConditionedIdeal.nD ConditionedIdeal.τ).loc ConditionedIdeal.main_arg1) = m ((c.tc : Thread _ _).loc ConditionedIdeal.main_arg1)
        ∧ r.2.mem ((c.tc : Thread ConditionedIdeal.nD ConditionedIdeal.τ).loc ConditionedIdeal.main_arg2) = m ((c.tc : Thread _ _).loc ConditionedIdeal.main_arg2))
        ∧ r.2.sem = fun _ => 0 :=
  (θ_run _ _ _).mono (fun r h => ⟨fun c => (h c).2, sem_eq_zero_of_no_sems rfl r.2⟩) (ConditionedIdeal.Value.run m g)

/-- THE VALUE: both programs run and leave the same array. -/
theorem algebraic : algebraic_ModulationIdeal_ConditionedIdeal := by
  intro m g m' g' _ hag
  refine ⟨fun c => (ModulationIdeal.Gen.dats m 0 c).arrAt 3 ModulationIdeal.cfg0.N, ModulationIdeal.Value.run_blocks m g, ?_⟩
  refine (θ_run _ _ _).mono (fun r h c => ⟨(h c).1.trans ?_, (h c).2⟩) (ConditionedIdeal.Value.run m' g')
  have e := ModulationIdeal.Entry.array_eq m c
  obtain ⟨e0, e1, e2⟩ := hag c
  refine (ConditionedIdeal.Read.val_main_v4_eq _ _ _).trans (Eq.trans ?_ e.symm)
  rw [e0, e1, e2]

end Cert.Proof.Modulation

end
-- ==== Proof.Bounds.lean ====
module

public import proofs.«01_k».proof.Proof.Gen.BoundsIdeal.Value
public import proofs.«01_k».proof.Proof.Gen.BoundedIdeal.Read
public import Idealize.ShloMosaic.Lib.Pipeline.ValueKit
public import Idealize.ShloMosaic.Lib.Pointwise

@[expose] public section

set_option maxRecDepth 16384

noncomputable section

/-! # The recurrence's lower bounds: the kernel's array is the reference's

Both sides come to `first` and `second`, the running sums of a softmax over the two layers less its first weight. -/

namespace Cert.Bounds.Entry

open Idealize.ShloMosaic

/-- The softmax weight of `w` between the two layers' parameters `u` and `v`. -/
def weight (u v w : EReal) : EReal :=
  Idealize.ShloMosaic.Ideal.div (Idealize.ShloMosaic.Ideal.exp (w - max u v))
    (Idealize.ShloMosaic.Ideal.exp (u - max u v) + Idealize.ShloMosaic.Ideal.exp (v - max u v))

/-- The first layer's bound … -/
def first (u v : EReal) : EReal := weight u v u - weight u v u

/-- … and the second's. -/
def second (u v : EReal) : EReal := weight u v u + weight u v v - weight u v u

end Cert.Bounds.Entry

namespace Cert.BoundsIdeal.Entry

open Cert.BoundsIdeal Cert.BoundsIdeal.Gen Idealize.ShloMosaic Idealize.ShloMosaic.TcCoe Idealize.SL.Sem
open Cert.Bounds.Entry

abbrev F := Idealize.ShloMosaic.Ideal

theorem first_payload (u v : S1x512.Idx → EReal) (l : Fin 512) :
    k0_pay7 (F := F) u v (ix2 0 l) = first (u (ix2 0 l)) (v (ix2 0 l)) := by
  pointwise [k0_pay7, k0_pay6, k0_pay5, k0_pay4, k0_pay3, k0_pay2, k0_pay1, first, weight]

theorem second_payload (u v : S1x512.Idx → EReal) (l : Fin 512) :
    k0_pay8 (F := F) u v (ix2 0 l) = second (u (ix2 0 l)) (v (ix2 0 l)) := by
  pointwise [k0_pay8, k0_pay6, k0_pay5, k0_pay4, k0_pay3, k0_pay2, k0_pay1, second, weight]

/-- The rows' places in the array. -/
theorem emb_first (l : Fin 512) : r0_0.emb (ix2 0 l) = (ix2 0 l : S2x512.Idx) := by
  funext a; apply Fin.ext; fin_cases a
  · rfl
  · exact (congrArg (0 + ·) (Nat.one_mul _)).trans (Nat.zero_add _)

theorem emb_second (l : Fin 512) : r0_1.emb (ix2 0 l) = (ix2 1 l : S2x512.Idx) := by
  funext a; apply Fin.ext; fin_cases a
  · rfl
  · exact (congrArg (0 + ·) (Nat.one_mul _)).trans (Nat.zero_add _)

variable (x : S2x512.Idx → EReal) (l : Fin 512)

theorem load_first : View.ld (Val := Elt F) (e' := .f32) x r0_0 (ix2 0 l) = x (ix2 0 l) := congrArg x (emb_first l)

theorem load_second : View.ld (Val := Elt F) (e' := .f32) x r0_1 (ix2 0 l) = x (ix2 1 l) := congrArg x (emb_second l)

theorem first_row : Value.G1 (F := F) x (ix2 0 l) = first (x (ix2 0 l)) (x (ix2 1 l)) := by
  have h : (ix2 0 l : S2x512.Idx) ∉ r0_1.set :=
    fun h => Nat.not_succ_le_zero 0 (Rect.mem_set_unit.mp h (0 : Fin 2)).1
  have k := View.canon_cons_emb (Val := Elt F) (e := .f32) r0_0 (k0_pay7 (F := F) (View.ld x r0_0) (View.ld x r0_1)) [] (ix2 0 l)
  rw [emb_first] at k
  have off := View.canon_cons_of_not_mem (Val := Elt F) (e := .f32) ⟨r0_1, k0_pay8 (F := F) (View.ld x r0_0) (View.ld x r0_1)⟩
    [⟨r0_0, k0_pay7 (F := F) (View.ld x r0_0) (View.ld x r0_1)⟩] h
  refine off.trans (k.trans ((first_payload _ _ l).trans ?_))
  rw [load_first, load_second]

theorem second_row : Value.G1 (F := F) x (ix2 1 l) = second (x (ix2 0 l)) (x (ix2 1 l)) := by
  refine (congrArg _ (emb_second l).symm).trans ((View.canon_cons_emb _ _ _ _).trans ((second_payload _ _ l).trans ?_))
  rw [load_first, load_second]

end Cert.BoundsIdeal.Entry

namespace Cert.BoundedIdeal.Entry

open Cert.BoundedIdeal Cert.BoundedIdeal.Gen Cert.BoundedIdeal.Read Idealize.ShloMosaic Idealize.SL.Sem
open Cert.Bounds.Entry

abbrev F := Idealize.ShloMosaic.Ideal

variable (x : S2x512.Idx → EReal) (l : Fin 512)

/-- The value the maximum starts from is `-∞`. -/
theorem ofBits_bot : Idealize.ShloMosaic.Ideal.ofBits .f32 0xFF800000#32 = ⊥ := by
  simp [Idealize.ShloMosaic.Ideal.ofBits, Idealize.ShloMosaic.Ideal.ieee]

theorem peak : val_main_v2 (F := F) x (ix1 l) = max (x (ix2 0 l)) (x (ix2 1 l)) := by
  unfold val_main_v2 val_main_v1 val_main_v0 val_main_cst val_main_cst_0
  pointwise [ofBits_bot]
  have e : (Finset.univ : Finset (Fin 2)) = {0, 1} := by decide
  rw [max_eq_right bot_le, e, Finset.fold_insert (by decide), Finset.fold_singleton, max_eq_left bot_le]

theorem weights (k : Fin 2) : val_main_v10 (F := F) x (ix2 k l) = weight (x (ix2 0 l)) (x (ix2 1 l)) (x (ix2 k l)) := by
  unfold val_main_v10 val_main_v9 val_main_v8 val_main_v7 val_main_v6 val_main_v5 val_main_v4 val_main_v3 val_main_cst_1
  have e := peak x l
  revert e
  generalize val_main_v2 (F := F) x = M
  intro e
  pointwise [weight, e, Fin.sum_univ_two]

/-- A window's two places, in order. -/
theorem places : List.finRange (Shape.numel ⟨S2x512.rank, ![2, 1]⟩) = [⟨0, by decide⟩, ⟨1, by decide⟩] := by decide

theorem place : ∀ n : Fin (Shape.numel ⟨S2x512.rank, ![2, 1]⟩), ((⟨S2x512.rank, ![2, 1]⟩ : Shape).rowMajor.symm n 0).val = n.val
    ∧ ((⟨S2x512.rank, ![2, 1]⟩ : Shape).rowMajor.symm n 1).val = 0 := by decide

theorem out_of_window (k : ℕ) (h : k = 0) : ¬ 1 ≤ 0 * 1 + k := by omega

theorem in_first (k : ℕ) (h : k = 0) : (1 ≤ 1 * 1 + k ∧ 1 * 1 + k - 1 < 2) ∧ 1 * 1 + k - 1 = 0 := by omega

theorem in_second (q : Fin 2) (k : ℕ) (h : k = 1) : (1 ≤ q.val * 1 + k ∧ q.val * 1 + k - 1 < 2) ∧ q.val * 1 + k - 1 = q.val := by omega

theorem in_row (l : Fin 512) (k : ℕ) (h : k = 0) : (0 ≤ l.val * 1 + k ∧ l.val * 1 + k - 0 < 512) ∧ l.val * 1 + k - 0 = l.val := by omega

/-- The running sum, as the reference's windows compute it. -/
theorem running (y : S2x512.Idx → EReal) (z : S_.Idx → EReal) (hz : z (Shape.Idx.first h_S_) = 0) (q : Fin 2) :
    (Host.reduceWindowAdd (F := F) (φ := .f32) ![2, 1] ![1, 1] ![1, 0] ![0, 0] y z reduceWindows_S2x512_S2x512_w2s1p1_0_w1s1p0_0 h_S_
      (ix2 q l) : EReal) = (if q = 0 then 0 else y (ix2 0 l)) + y (ix2 q l) := by
  have p0 := place ⟨0, by decide⟩
  have p1 := place ⟨1, by decide⟩
  change Host.reduceWindow (α := EReal) (· + ·) ![2, 1] ![1, 1] ![1, 0] ![0, 0] y (fun _ : (⟨0, ![]⟩ : Shape).Idx => z (Shape.Idx.first h_S_))
      reduceWindows_S2x512_S2x512_w2s1p1_0_w1s1p0_0 h_S_ (ix2 q l) = _
  unfold Host.reduceWindow
  simp only [places, hz, List.foldl_cons, List.foldl_nil]
  refine congrArg₂ (· + ·) ((zero_add _).trans ?_) ?_
  · by_cases hq : q = 0
    · subst hq
      rw [if_pos rfl]
      exact dif_neg fun h => absurd (out_of_window _ p0.1) (not_not_intro (h 0).1)
    · obtain rfl : q = 1 := by omega
      rw [if_neg hq]
      refine (dif_pos fun a => ?_).trans (congrArg y (funext fun a => Fin.ext ?_))
      · fin_cases a
        exacts [(in_first _ p0.1).1, (in_row l _ p0.2).1]
      · fin_cases a
        exacts [(in_first _ p0.1).2, (in_row l _ p0.2).2]
  · refine (dif_pos fun a => ?_).trans (congrArg y (funext fun a => Fin.ext ?_))
    · fin_cases a
      exacts [(in_second q _ p1.1).1, (in_row l _ p1.2).1]
    · fin_cases a
      exacts [(in_second q _ p1.1).2, (in_row l _ p1.2).2]

/-- THE REFERENCE, row by row. -/
theorem result (q : Fin 2) : val_main_v14 (F := F) x (ix2 q l)
    = if q = 0 then first (x (ix2 0 l)) (x (ix2 1 l)) else second (x (ix2 0 l)) (x (ix2 1 l)) := by
  have e := weights x l
  unfold val_main_v14 val_main_v13 val_main_v12 val_main_v11
  have z : val_main_call0_call0_v0 (F := F) (Shape.Idx.first h_S_) = (0 : EReal) := by
    unfold val_main_call0_call0_v0 val_main_call0_call0_cst
    pointwise
  revert e
  generalize val_main_v10 (F := F) x = W
  intro e
  have r := running l W _ z q
  revert r
  generalize Host.reduceWindowAdd (F := F) (φ := .f32) ![2, 1] ![1, 1] ![1, 0] ![0, 0] W (val_main_call0_call0_v0 (F := F))
    reduceWindows_S2x512_S2x512_w2s1p1_0_w1s1p0_0 h_S_ = C
  intro r
  pointwise
  rw [r, e, e]
  by_cases hq : q = 0
  · subst hq
    rw [if_pos rfl, if_pos rfl, zero_add]
    rfl
  · obtain rfl : q = 1 := by omega
    rw [if_neg hq, if_neg hq]
    rfl

end Cert.BoundedIdeal.Entry

namespace Cert.BoundsIdeal.Entry

open Cert.BoundsIdeal Cert.BoundsIdeal.Gen Idealize.ShloMosaic Idealize.ShloMosaic.TcCoe Idealize.SL.Sem

/-- THE EQUATION: the kernel leaves what the reference computes. -/
theorem array_eq (x : S2x512.Idx → EReal) : Value.G1 (F := F) x = Cert.BoundedIdeal.Read.val_main_v14 (F := F) x := by
  funext i
  obtain ⟨q, l, rfl⟩ : ∃ (q : Fin 2) (l : Fin 512), i = ix2 q l :=
    ⟨i 0, i 1, funext fun a => by fin_cases a <;> rfl⟩
  refine Eq.trans ?_ (Cert.BoundedIdeal.Entry.result x l q).symm
  by_cases hq : q = 0
  · subst hq
    rw [if_pos rfl]
    exact first_row x l
  · obtain rfl : q = 1 := by omega
    rw [if_neg hq]
    exact second_row x l

end Cert.BoundsIdeal.Entry

end
-- ==== Proof.BoundsClaims.lean ====
module

public import proofs.«01_k».proof.Defs
public import proofs.«01_k».proof.Proof.Gen.Bounds.Frame
public import proofs.«01_k».proof.Proof.Gen.BoundsIdeal.Frame
public import proofs.«01_k».proof.Proof.Bounds
public import Idealize.ShloMosaic.Lib.Quiescent

@[expose] public section

noncomputable section

/-! # The recurrence's lower bounds: the kernel and its reference, claim by claim -/

namespace Cert.Proof.Bounds

open Idealize.ShloMosaic Idealize.SL.Sem

/-- The reference runs, leaves its arguments alone and declares no semaphore. -/
theorem reference_frame (m : (ℓ : Loc BoundedIdeal.nD BoundedIdeal.τ BoundedIdeal.sig) → Buf (Elt Ideal) ℓ)
    (g : Dev BoundedIdeal.nD → PrngReg) :
    θ_run (BoundedIdeal.defs (F := Ideal)) (onTc (τ := BoundedIdeal.τ) (BoundedIdeal.main (F := Ideal)))
      ⟨m, fun _ => 0, g⟩ fun r => (∀ c : Dev BoundedIdeal.nD,
        r.2.mem ((c.tc : Thread BoundedIdeal.nD BoundedIdeal.τ).loc BoundedIdeal.main_arg0) = m ((c.tc : Thread _ _).loc BoundedIdeal.main_arg0))
        ∧ r.2.sem = fun _ => 0 :=
  (θ_run _ _ _).mono (fun r h => ⟨fun c => (h c).2, sem_eq_zero_of_no_sems rfl r.2⟩) (BoundedIdeal.Value.run m g)

/-- THE VALUE: both programs run and leave the same array. -/
theorem algebraic : algebraic_BoundsIdeal_BoundedIdeal := by
  intro m g m' g' _ hag
  refine ⟨fun c => BoundsIdeal.Value.G1 (m ((c.tc : Thread _ _).loc BoundsIdeal.main_arg0)), BoundsIdeal.Value.run m g, ?_⟩
  refine (θ_run _ _ _).mono (fun r h c => ⟨(h c).1.trans ?_, (h c).2⟩) (BoundedIdeal.Value.run m' g')
  refine (BoundedIdeal.Read.val_main_v14_eq _).trans (Eq.trans ?_ (BoundsIdeal.Entry.array_eq _).symm)
  rw [hag c]

end Cert.Proof.Bounds

end
-- ==== Proof.Running.lean ====
module

public import proofs.«01_k».proof.Proof.Softmax

@[expose] public section

noncomputable section

/-! # Softmax with a running maximum

Scores that come block by block may be weighted by powers of two below the maximum so far: each new block raises the maximum, and
what was summed before is multiplied by the power of two by which it rose. -/

namespace Cert.Softmax

open Idealize.ShloMosaic

variable {N : ℕ} {ι : Type} [Fintype ι] [Nonempty ι] (s v : Fin N → ι → EReal)

/-- The blocks before the `n`-th. -/
def before (N n : ℕ) : Finset (Fin N) := Finset.univ.filter fun b => b.val < n

theorem before_succ {n : ℕ} (hn : n < N) : before N (n + 1) = insert ⟨n, hn⟩ (before N n) := by
  ext b
  simp only [before, Finset.mem_filter, Finset.mem_univ, true_and, Finset.mem_insert, Fin.ext_iff]
  omega

theorem not_mem_before {n : ℕ} (hn : n < N) : (⟨n, hn⟩ : Fin N) ∉ before N n := by simp [before]

theorem before_all : before N N = Finset.univ := by simp [before]

/-- What is held after `n` blocks: the maximum, the sum of the weights and the sum of the weighted values. -/
def Running (n : ℕ) (m l a : EReal) : Prop :=
  (n = 0 ∧ m = ⊥ ∧ l = 0 ∧ a = 0) ∨
    (Finite m ∧ l = ∑ b ∈ before N n, ∑ j, Ideal.exp2 (s b j - m) ∧ a = ∑ b ∈ before N n, ∑ j, v b j * Ideal.exp2 (s b j - m))

/-- A nonnegative real factor goes into a double sum. -/
theorem real_mul_sum {κ : Type} (t : Finset κ) {r : ℝ} (hr : 0 ≤ r) (f : κ → ι → EReal) :
    (r : EReal) * ∑ b ∈ t, ∑ j, f b j = ∑ b ∈ t, ∑ j, (r : EReal) * f b j := by
  rw [← Finset.sum_coe_sort t, ← Finset.sum_coe_sort t, mul_comm, sum_mul_real hr]
  refine Finset.sum_congr rfl fun b _ => (sum_mul_real hr _).trans (Finset.sum_congr rfl fun j _ => mul_comm _ _)

/-- Going from the maximum `m` to the maximum `M` rescales a weight. -/
theorem rescale {m M x : EReal} (hm : Finite m) (hM : Finite M) (hx : Finite x) (w : EReal) :
    Ideal.exp2 (m - M) * (w * Ideal.exp2 (x - m)) = w * Ideal.exp2 (x - M) := by
  obtain ⟨m, rfl⟩ := hm; obtain ⟨M, rfl⟩ := hM; obtain ⟨x, rfl⟩ := hx
  rw [mul_left_comm, ← EReal.coe_sub, ← EReal.coe_sub, ← EReal.coe_sub, Ideal.exp2_coe, Ideal.exp2_coe, Ideal.exp2_coe,
    ← EReal.coe_mul]
  have h := Real.rpow_add (x := 2) two_pos (m - M) (x - m)
  rw [show m - M + (x - m) = x - M by ring] at h
  exact congrArg (fun y : ℝ => w * (y : EReal)) h.symm

/-- What was summed before, rescaled. -/
theorem rescale_sum {m M : EReal} (hm : Finite m) (hM : Finite M) (hs : ∀ b j, Finite (s b j)) (n : ℕ) :
    Ideal.exp2 (m - M) * ∑ b ∈ before N n, ∑ j, v b j * Ideal.exp2 (s b j - m)
      = ∑ b ∈ before N n, ∑ j, v b j * Ideal.exp2 (s b j - M) := by
  have h : ∃ r : ℝ, 0 ≤ r ∧ Ideal.exp2 (m - M) = (r : EReal) := by
    obtain ⟨m, rfl⟩ := hm; obtain ⟨M, rfl⟩ := hM
    exact ⟨Real.rpow 2 (m - M), (Real.rpow_pos_of_pos two_pos _).le, by rw [← EReal.coe_sub, Ideal.exp2_coe]⟩
  obtain ⟨r, hr, e⟩ := h
  rw [e, real_mul_sum _ hr, ← e]
  exact Finset.sum_congr rfl fun b _ => Finset.sum_congr rfl fun j _ => rescale hm hM (hs b j) _

/-- ONE BLOCK: the maximum rises to the block's, what was summed is rescaled, the block is added. -/
theorem Running.step (hs : ∀ b j, Finite (s b j)) {n : ℕ} (hn : n < N) {m l a : EReal} (h : Running s v n m l a) :
    Running s v (n + 1) (max m (Finset.univ.fold max ⊥ (s ⟨n, hn⟩)))
      (Ideal.exp2 (m - max m (Finset.univ.fold max ⊥ (s ⟨n, hn⟩))) * l
        + ∑ j, Ideal.exp2 (s ⟨n, hn⟩ j - max m (Finset.univ.fold max ⊥ (s ⟨n, hn⟩))))
      (Ideal.exp2 (m - max m (Finset.univ.fold max ⊥ (s ⟨n, hn⟩))) * a
        + ∑ j, v ⟨n, hn⟩ j * Ideal.exp2 (s ⟨n, hn⟩ j - max m (Finset.univ.fold max ⊥ (s ⟨n, hn⟩)))) := by
  have hp := finite_fold_max (s ⟨n, hn⟩) (hs ⟨n, hn⟩)
  have hM : Finite (max m (Finset.univ.fold max ⊥ (s ⟨n, hn⟩))) := by
    rcases h with ⟨-, rfl, -, -⟩ | ⟨hm, -, -⟩
    · rwa [max_eq_right bot_le]
    · rcases max_choice m (Finset.univ.fold max ⊥ (s ⟨n, hn⟩)) with e | e <;> rw [e] <;> assumption
  revert hM
  generalize max m (Finset.univ.fold max ⊥ (s ⟨n, hn⟩)) = M
  intro hM
  refine Or.inr ⟨hM, ?_, ?_⟩
  all_goals rw [before_succ hn, Finset.sum_insert (not_mem_before hn), add_comm]; refine congrArg (_ + ·) ?_
  all_goals rcases h with ⟨rfl, -, rfl, rfl⟩ | ⟨hm, rfl, rfl⟩
  · simp [before]
  · simpa only [one_mul] using rescale_sum s (fun _ _ => 1) hm hM hs n
  · simp [before]
  · exact rescale_sum s v hm hM hs n

/-- AT THE END: the quotient is that of the sums over all the blocks, for some finite number subtracted from the scores. -/
theorem Running.quotient (hN : N ≠ 0) {m l a : EReal} (h : Running s v N m l a) :
    ∃ M, Finite M ∧ Ideal.div a l
      = Ideal.div (∑ b, ∑ j, v b j * Ideal.exp2 (s b j - M)) (∑ b, ∑ j, Ideal.exp2 (s b j - M)) := by
  rcases h with ⟨h, -⟩ | ⟨hm, rfl, rfl⟩
  · exact absurd h hN
  · exact ⟨m, hm, by rw [before_all]⟩

end Cert.Softmax

end
-- ==== Proof.OnlineBlock.lean ====
module

public import proofs.«01_k».proof.Proof.Gen.OnlineIdeal.Value
public import proofs.«01_k».proof.Proof.AttentionValue
public import proofs.«01_k».proof.Proof.Running
public import proofs.«01_k».proof.Proof.AttentionRef

@[expose] public section

set_option maxRecDepth 16384

noncomputable section

/-! # What the attention's other body does with a block of keys

This body keeps, per query, the largest score so far, and rescales what it has summed when that rises. It goes over the keys
twice, once per key head, in four blocks of 512. -/

namespace Cert.OnlineIdeal.Block

open Cert.OnlineIdeal Cert.OnlineIdeal.Gen Idealize.ShloMosaic Idealize.ShloMosaic.TcCoe Idealize.SL.Sem
open Cert.AttentionIdeal.Block (F key score value value_key outLane col valLane valuesOf queriesOf)

/-! ## One block of keys -/

section Trip

variable (kb : S1x512x128.Idx → EReal) (vb : S1x1x128x512.Idx → EReal) (qb : S1x1x1x128x512.Idx → EReal)

/-- The score of a query column against a key of the block. -/
def blockScore (r j : Fin 512) : EReal := ∑ e : Fin 128, kb (ix3 0 j e) * qb (ix5 0 0 0 e r)

/-- The largest scores after the block, from those before … -/
def peakAfter (m : S1x512.Idx → EReal) : S1x512.Idx → EReal := k0_pay6 (F := F) qb m kb

/-- … the denominators … -/
def denomAfter (m l : S1x512.Idx → EReal) : S1x512.Idx → EReal := k0_pay9 (F := F) qb m l kb

/-- … and the numerators. -/
def numerAfter (m : S1x512.Idx → EReal) (acc : S1x128x512.Idx → EReal) : S1x128x512.Idx → EReal :=
  k0_pay10 (F := F) qb m kb acc vb

theorem scores_apply (r j : Fin 512) : k0_pay5 (F := F) qb kb (ix2 j r) = blockScore kb qb r j := by
  pointwise [k0_pay5, blockScore]

theorem peakAfter_apply (m : S1x512.Idx → EReal) (r : Fin 512) :
    peakAfter kb qb m (ix2 0 r) = max (m (ix2 0 r)) (Finset.univ.fold max ⊥ (blockScore kb qb r)) := by
  have e := scores_apply kb qb r
  unfold peakAfter k0_pay6
  revert e
  generalize k0_pay5 (F := F) qb kb = S
  intro e
  pointwise [Cert.SoftmaxIdeal.Softmax.ofBits_bot]
  simp only [e]

theorem factor_apply (m : S1x512.Idx → EReal) (r : Fin 512) :
    k0_pay7 (F := F) qb m kb (ix2 0 r) = Idealize.ShloMosaic.Ideal.exp2 (m (ix2 0 r) - peakAfter kb qb m (ix2 0 r)) := rfl

theorem weights_apply (m : S1x512.Idx → EReal) (r j : Fin 512) :
    k0_pay8 (F := F) qb m kb (ix2 j r)
      = Idealize.ShloMosaic.Ideal.exp2 (blockScore kb qb r j - peakAfter kb qb m (ix2 0 r)) := by
  rw [← scores_apply]
  unfold k0_pay8 peakAfter
  generalize k0_pay5 (F := F) qb kb = S
  generalize k0_pay6 (F := F) qb m kb = M
  pointwise
  rfl

theorem denomAfter_apply (m l : S1x512.Idx → EReal) (r : Fin 512) :
    denomAfter kb qb m l (ix2 0 r)
      = Idealize.ShloMosaic.Ideal.exp2 (m (ix2 0 r) - peakAfter kb qb m (ix2 0 r)) * l (ix2 0 r)
        + ∑ j, Idealize.ShloMosaic.Ideal.exp2 (blockScore kb qb r j - peakAfter kb qb m (ix2 0 r)) := by
  simp only [← weights_apply, ← factor_apply]
  unfold denomAfter k0_pay9
  generalize k0_pay7 (F := F) qb m kb = A
  generalize k0_pay8 (F := F) qb m kb = W
  pointwise

theorem numerAfter_apply (m : S1x512.Idx → EReal) (acc : S1x128x512.Idx → EReal) (d : Fin 128) (r : Fin 512) :
    numerAfter kb vb qb m acc (ix3 0 d r)
      = Idealize.ShloMosaic.Ideal.exp2 (m (ix2 0 r) - peakAfter kb qb m (ix2 0 r)) * acc (ix3 0 d r)
        + ∑ j, vb (ix4 0 0 d j) * Idealize.ShloMosaic.Ideal.exp2 (blockScore kb qb r j - peakAfter kb qb m (ix2 0 r)) := by
  simp only [← weights_apply, ← factor_apply]
  unfold numerAfter k0_pay10
  generalize k0_pay7 (F := F) qb m kb = A
  generalize k0_pay8 (F := F) qb m kb = W
  pointwise

end Trip

/-! ## The numerators' buffer -/

/-- One head's rows of the numerators' buffer. -/
abbrev headRows (h : Fin 2) : Rect S2x128x512 := Rect.unit ![h.val, 0, 0] ![1, 128, 512] (by
  fin_cases h <;> decide)

/-- Stores made into the buffer, the last first, and what they leave at one head, as the kernel loads it. -/
abbrev Stores := List (View.Piece (Elt F) S2x128x512 .f32)
abbrev held (L : Stores) (h : Fin 2) : S1x128x512.Idx → EReal :=
  (View.whole cc0_scratch0).readCov (Val := Elt F) L (headRows h).toLoadRect

theorem headRows_emb (h : Fin 2) (d : Fin 128) (r : Fin 512) : (headRows h).emb (ix3 0 d r) = ix3 h d r := by
  refine funext fun a => Fin.ext ((Rect.idx_unit_val _ _ _ _ a).trans ?_)
  fin_cases a
  exacts [rfl, Nat.zero_add _, Nat.zero_add _]

theorem held_apply (L : Stores) (h : Fin 2) (d : Fin 128) (r : Fin 512) : held L h (ix3 0 d r) = View.canon L (ix3 h d r) :=
  (congrFun (View.readCov_eq_canon' _ L (headRows h).toLoadRect) _).trans (congrArg _ (headRows_emb h d r))

theorem canon_hit (h : Fin 2) (w : S1x128x512.Idx → EReal) (L : Stores) (d : Fin 128) (r : Fin 512) :
    View.canon ((⟨headRows h, w⟩ : View.Piece (Elt F) S2x128x512 .f32) :: L) (ix3 h d r) = w (ix3 0 d r) :=
  (congrArg _ (headRows_emb h d r).symm).trans (View.canon_cons_emb (headRows h) _ _ (ix3 0 d r))

theorem canon_skip {h h' : Fin 2} (hne : h' ≠ h) (w : S1x128x512.Idx → EReal) (L : Stores) (d : Fin 128) (r : Fin 512) :
    View.canon ((⟨headRows h, w⟩ : View.Piece (Elt F) S2x128x512 .f32) :: L) (ix3 h' d r) = View.canon L (ix3 h' d r) := by
  refine View.canon_cons_of_not_mem (Val := Elt F) (s := S2x128x512) (e := .f32) ⟨headRows h, w⟩ L ?_
  rw [Rect.mem_set_unit]
  intro hm
  have h0 : h.val ≤ h'.val ∧ h'.val < h.val + 1 := hm 0
  exact hne (Fin.ext (by omega))

/-! ## The four blocks -/

section Blocks

variable (xq : S1x2x1x128x512.Idx → EReal) (xk : S1x2048x128.Idx → EReal) (xv : S1x4x128x512.Idx → EReal)

/-- Block `n` of the keys. -/
def keysOf (n : Fin 4) : S1x512x128.Idx → EReal := fun u => xk (ix3 0 (key n (u 1)) (u 2))

/-- What is carried from block to block: the largest scores and the denominators, and the stores made. -/
abbrev Carried := (FVec F S1x512 .f32 × FVec F S1x512 .f32) × Stores

/-- One block more, of keys `kb` and values `vb`, for head `h`, where the head's numerators are `acc`. -/
def onward (h : Fin 2) (kb : S1x512x128.Idx → EReal) (vb : S1x1x128x512.Idx → EReal) (acc : S1x128x512.Idx → EReal)
    (p : Carried) : Carried :=
  ((peakAfter kb (queriesOf xq h) p.1.1, denomAfter kb (queriesOf xq h) p.1.1 p.1.2),
    [⟨headRows h, numerAfter kb vb (queriesOf xq h) p.1.1 acc⟩] ++ p.2)

/-- The same with the `n`-th block; `L` are the stores made before the head's first block. -/
def advance (h : Fin 2) (L : Stores) (n : Fin 4) (p : Carried) : Carried :=
  onward xq h (keysOf xk n) (valuesOf xv n) (held (p.2 ++ L) h) p

/-- What is carried after `n` blocks. -/
def carried (h : Fin 2) (L : Stores) : ℕ → Carried
  | 0 => ((k0_pay3 (F := F), k0_pay4 (F := F)), [])
  | n + 1 => if hn : n < 4 then advance xq xk xv h L ⟨n, hn⟩ (carried h L n) else carried h L n

/-- The scores and the values of the head, by block. -/
abbrev scoreOf (h : Fin 2) (r : Fin 512) (n : Fin 4) (j : Fin 512) : EReal := score xq xk h r (key n j)
abbrev valueOf (d : Fin 128) (n : Fin 4) (j : Fin 512) : EReal := value xv d (key n j)

theorem blockScore_eq (h : Fin 2) (n : Fin 4) (r : Fin 512) :
    blockScore (keysOf xk n) (queriesOf xq h) r = scoreOf xq xk h r n := rfl

/-- After `n` blocks the head's rows hold what a running maximum leaves … -/
theorem carried_running (h : Fin 2) (L : Stores) (d : Fin 128) (r : Fin 512)
    (hL : View.canon L (ix3 h d r) = (0 : EReal)) (hs : ∀ n j, Softmax.Finite (scoreOf xq xk h r n j)) (n : ℕ) (hn : n ≤ 4) :
    Softmax.Running (scoreOf xq xk h r) (valueOf xv d) n ((carried xq xk xv h L n).1.1 (ix2 0 r))
      ((carried xq xk xv h L n).1.2 (ix2 0 r)) (View.canon ((carried xq xk xv h L n).2 ++ L) (ix3 h d r)) := by
  induction n with
  | zero =>
    refine Or.inl ⟨rfl, ?_, ?_, hL⟩
    · exact Cert.SoftmaxIdeal.Softmax.ofBits_bot
    · show k0_pay4 (F := F) (ix2 0 r) = (0 : EReal)
      pointwise [k0_pay4]
  | succ n ih =>
    have ih := Softmax.Running.step _ _ hs (Nat.lt_of_succ_le hn) (ih (Nat.le_of_succ_le hn))
    rw [carried, dif_pos (Nat.lt_of_succ_le hn)]
    revert ih
    generalize carried xq xk xv h L n = p
    intro ih
    unfold advance onward
    dsimp only
    rw [denomAfter_apply, peakAfter_apply, blockScore_eq]
    refine Eq.mp (congrArg (Softmax.Running _ _ _ _ _) ?_) ih
    refine Eq.symm ((canon_hit ..).trans ((numerAfter_apply ..).trans ?_))
    rw [peakAfter_apply, blockScore_eq, held_apply]
    refine congrArg₂ (· + ·) rfl (Finset.sum_congr rfl fun j _ => congrArg (· * _) ?_)
    exact (value_key xv d ⟨n, Nat.lt_of_succ_le hn⟩ j).symm

/-- … and the other head's rows what they held. -/
theorem carried_other {h h' : Fin 2} (hne : h' ≠ h) (L : Stores) (d : Fin 128) (r : Fin 512) (n : ℕ) :
    View.canon ((carried xq xk xv h L n).2 ++ L) (ix3 h' d r) = View.canon L (ix3 h' d r) := by
  induction n with
  | zero => rfl
  | succ n ih =>
    rw [carried]
    split
    · exact (canon_skip hne _ _ d r).trans ih
    · exact ih

end Blocks

end Cert.OnlineIdeal.Block

end
-- ==== Proof.OnlineValue.lean ====
module

public import proofs.«01_k».proof.Proof.OnlineBlock

@[expose] public section

set_option maxRecDepth 16384

noncomputable section

/-! # The other body's block at one element, and the array it leaves -/

namespace Cert.OnlineIdeal.Block

open Cert.OnlineIdeal Cert.OnlineIdeal.Gen Idealize.ShloMosaic Idealize.ShloMosaic.TcCoe Idealize.SL.Sem
open Cert.AttentionIdeal.Block (F key score value outLane col valLane valuesOf queriesOf ld_values ld_queries sum_blocks row)

/-! ## The two loops over the keys -/

section Loops

variable (xq : S1x2x1x128x512.Idx → EReal) (xk : S1x2048x128.Idx → EReal) (xv : S1x4x128x512.Idx → EReal)

/-- A load of 512 keys from an offset on is a block of them. -/
theorem ld_keys (n : Fin 4) (o : Fin 3 → Nat) (h0 : o 0 = 0) (h1 : o 1 = 512 * n.val) (h2 : o 2 = 0)
    (hb : ∀ a, o a + S1x512x128.size a ≤ S1x2048x128.size a) :
    View.ld (Val := Elt F) (e' := .f32) (S := S1x2048x128) xk (Rect.unit o ![1, 512, 128] hb) = keysOf xk n := by
  funext u
  refine congrArg xk (funext fun a => Fin.ext ((Rect.idx_unit_val _ _ _ _ a).trans ?_))
  fin_cases a
  exacts [congrArg₂ (· + ·) h0 (Nat.lt_one_iff.1 (u 0).isLt), congrArg (· + (u 1).val) h1,
    (congrArg (· + (u 2).val) h2).trans (Nat.zero_add _)]

variable (c : Dev nD) (t : Fin cfg0.N) (L : Stores)

/-- What the loop for the first head carries, and the loop for the second, after `n` blocks; `L` are the stores before. -/
abbrev loop0 (n : ℕ) : Carried :=
  st_k0_t1 (F := F) Variants.none c none (grid0.coords t) (ms0_0 t) (hs0_0 t) (ms0_1 t) (hs0_1 t) (ms0_2 t) (hs0_2 t) (ms0_3 t)
    (hs0_3 t) (ms0_4 t) (hs0_4 t) scM0_0 (Memref.isWhole_whole _) (queriesOf xq 0) ((hs0_2 t).unread xk) ((hs0_3 t).unread xv)
    ((View.whole cc0_scratch0).writes (Elt F) (View.whole cc0_scratch0).junk L) (k0_pay3 (F := F), k0_pay4 (F := F)) n
abbrev loop1 (n : ℕ) : Carried :=
  st_k0_t2 (F := F) Variants.none c none (grid0.coords t) (ms0_0 t) (hs0_0 t) (ms0_1 t) (hs0_1 t) (ms0_2 t) (hs0_2 t) (ms0_3 t)
    (hs0_3 t) (ms0_4 t) (hs0_4 t) scM0_0 (Memref.isWhole_whole _) (queriesOf xq 1) ((hs0_2 t).unread xk) ((hs0_3 t).unread xv)
    ((View.whole cc0_scratch0).writes (Elt F) (View.whole cc0_scratch0).junk L) (k0_pay11 (F := F), k0_pay12 (F := F)) n

/-- Loading a head's rows after further stores. -/
theorem readAt_held (h : Fin 2) (M : Stores) :
    View.readAt (Elt F) (View.whole cc0_scratch0) (headRows h).toLoadRect ((View.whole cc0_scratch0).writes (Elt F)
      ((View.whole cc0_scratch0).writes (Elt F) (View.whole cc0_scratch0).junk L) M) = held (M ++ L) h := by
  rw [← View.writes_append]
  rfl

theorem offsets0 : ∀ k : Fin k0_t1_loop.trips, (k0_off1 k 1 = 512 * k.val ∧ k0_off2 k 1 = k.val) := by decide +kernel
theorem offsets1 : ∀ k : Fin k0_t2_loop.trips, (k0_off3 k 1 = 512 * k.val ∧ k0_off4 k 1 = k.val) := by decide +kernel

/-- A trip of the first loop goes one block further … -/
theorem trip0_eq (k : Fin k0_t1_loop.trips) (hk : k.val < 4) (p : Carried) :
    (tripR_k0_t1 (F := F) Variants.none c none (grid0.coords t) (ms0_0 t) (hs0_0 t) (ms0_1 t) (hs0_1 t) (ms0_2 t) (hs0_2 t) (ms0_3 t)
        (hs0_3 t) (ms0_4 t) (hs0_4 t) scM0_0 (Memref.isWhole_whole _) (queriesOf xq 0) ((hs0_2 t).unread xk) ((hs0_3 t).unread xv)
        k p.1 ((View.whole cc0_scratch0).writes (Elt F)
          ((View.whole cc0_scratch0).writes (Elt F) (View.whole cc0_scratch0).junk L) p.2),
      tripL_k0_t1 (F := F) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole _) (queriesOf xq 0) ((hs0_2 t).unread xk)
        ((hs0_3 t).unread xv) k p.1 ((View.whole cc0_scratch0).writes (Elt F)
          ((View.whole cc0_scratch0).writes (Elt F) (View.whole cc0_scratch0).junk L) p.2) ++ p.2)
      = advance xq xk xv 0 L ⟨k.val, hk⟩ p := by
  have ek : View.readAt (Elt F) (ms0_2 t).view (Rect.unit (s := S1x2048x128) (k0_off1 k) S1x512x128.size (k0_off1_inb k)).toLoadRect
      ((hs0_2 t).unread xk) = keysOf xk ⟨k.val, hk⟩ := by
    rw [View.readAt_eq_ld, (hs0_2 t).read_unread]
    exact ld_keys xk ⟨k.val, hk⟩ _ rfl (offsets0 k).1 rfl _
  have ev : View.readAt (Elt F) (ms0_3 t).view (Rect.unit (s := S1x4x128x512) (k0_off2 k) S1x1x128x512.size (k0_off2_inb k)).toLoadRect
      ((hs0_3 t).unread xv) = valuesOf xv ⟨k.val, hk⟩ := by
    rw [View.readAt_eq_ld, (hs0_3 t).read_unread]
    exact ld_values xv ⟨k.val, hk⟩ _ rfl (offsets0 k).2 rfl rfl _
  unfold advance
  rw [← ek, ← ev, ← readAt_held]
  unfold tripR_k0_t1 tripL_k0_t1 trip_k0_t1
  rfl

theorem loop0_eq (n : ℕ) (hn : n ≤ 4) : loop0 xq xk xv c t L n = carried xq xk xv 0 L n := by
  induction n with
  | zero => rfl
  | succ n ih =>
    rw [carried, dif_pos (Nat.lt_of_succ_le hn), ← ih (Nat.le_of_succ_le hn)]
    exact (st_k0_t1_succ (F := F) _ _ _ _ _ _ _ _ _ _ _ _ _ _ _ _ _ _ _ _ _ ⟨n, Nat.lt_of_succ_le hn⟩).trans
      (trip0_eq xq xk xv c t L ⟨n, Nat.lt_of_succ_le hn⟩ (Nat.lt_of_succ_le hn) _)

/-- A trip of the second loop goes one block further … -/
theorem trip1_eq (k : Fin k0_t2_loop.trips) (hk : k.val < 4) (p : Carried) :
    (tripR_k0_t2 (F := F) Variants.none c none (grid0.coords t) (ms0_0 t) (hs0_0 t) (ms0_1 t) (hs0_1 t) (ms0_2 t) (hs0_2 t) (ms0_3 t)
        (hs0_3 t) (ms0_4 t) (hs0_4 t) scM0_0 (Memref.isWhole_whole _) (queriesOf xq 1) ((hs0_2 t).unread xk) ((hs0_3 t).unread xv)
        k p.1 ((View.whole cc0_scratch0).writes (Elt F)
          ((View.whole cc0_scratch0).writes (Elt F) (View.whole cc0_scratch0).junk L) p.2),
      tripL_k0_t2 (F := F) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole _) (queriesOf xq 1) ((hs0_2 t).unread xk)
        ((hs0_3 t).unread xv) k p.1 ((View.whole cc0_scratch0).writes (Elt F)
          ((View.whole cc0_scratch0).writes (Elt F) (View.whole cc0_scratch0).junk L) p.2) ++ p.2)
      = advance xq xk xv 1 L ⟨k.val, hk⟩ p := by
  have ek : View.readAt (Elt F) (ms0_2 t).view (Rect.unit (s := S1x2048x128) (k0_off3 k) S1x512x128.size (k0_off3_inb k)).toLoadRect
      ((hs0_2 t).unread xk) = keysOf xk ⟨k.val, hk⟩ := by
    rw [View.readAt_eq_ld, (hs0_2 t).read_unread]
    exact ld_keys xk ⟨k.val, hk⟩ _ rfl (offsets1 k).1 rfl _
  have ev : View.readAt (Elt F) (ms0_3 t).view (Rect.unit (s := S1x4x128x512) (k0_off4 k) S1x1x128x512.size (k0_off4_inb k)).toLoadRect
      ((hs0_3 t).unread xv) = valuesOf xv ⟨k.val, hk⟩ := by
    rw [View.readAt_eq_ld, (hs0_3 t).read_unread]
    exact ld_values xv ⟨k.val, hk⟩ _ rfl (offsets1 k).2 rfl rfl _
  unfold advance
  rw [← ek, ← ev, ← readAt_held]
  unfold tripR_k0_t2 tripL_k0_t2 trip_k0_t2
  rfl

theorem loop1_eq (n : ℕ) (hn : n ≤ 4) : loop1 xq xk xv c t L n = carried xq xk xv 1 L n := by
  induction n with
  | zero => rfl
  | succ n ih =>
    rw [carried, dif_pos (Nat.lt_of_succ_le hn), ← ih (Nat.le_of_succ_le hn)]
    exact (st_k0_t2_succ (F := F) _ _ _ _ _ _ _ _ _ _ _ _ _ _ _ _ _ _ _ _ _ ⟨n, Nat.lt_of_succ_le hn⟩).trans
      (trip1_eq xq xk xv c t L ⟨n, Nat.lt_of_succ_le hn⟩ (Nat.lt_of_succ_le hn) _)

/-! ## The end -/

/-- The last payload, from the denominators and numerators of the two heads. -/
abbrev finish (l l' : S1x512.Idx → EReal) (v w : S1x128x512.Idx → EReal) : S1x128x512.Idx → EReal :=
  k0_pay1 (F := F) l' (k0_pay20 l v) (k0_pay21 l v) (k0_pay22 l v) (k0_pay23 l v) w

/-- It divides numerators by denominators and puts the heads side by side. -/
theorem finish_apply (l l' : S1x512.Idx → EReal) (v w : S1x128x512.Idx → EReal) (r : Fin 128) (h : Fin 2) (g : Fin 4) (x : Fin 64) :
    finish l l' v w (ix3 0 r (outLane h g x))
      = Idealize.ShloMosaic.Ideal.div ((if h = 0 then v else w) (ix3 0 (valLane h x) (col g r)))
          ((if h = 0 then l else l') (ix2 0 (col g r))) := by
  pointwise [finish, k0_pay1, k0_pay20, k0_pay21, k0_pay22, k0_pay23, k0_pay19]
  unfold outLane valLane col
  fin_cases h
  all_goals fin_cases g
  all_goals
    dsimp only [Fin.val_zero, Fin.val_one]
    repeat refine (dif_neg (by omega)).trans ?_
    try refine (dif_pos (by omega)).trans ?_
    first
    | refine congrArg₂ Idealize.ShloMosaic.Ideal.div (congrArg v (congrArg₂ (ix3 0) (Fin.ext ?_) (Fin.ext ?_)))
        (congrArg l (congrArg (ix2 0) (Fin.ext ?_)))
    | refine congrArg₂ Idealize.ShloMosaic.Ideal.div (congrArg w (congrArg₂ (ix3 0) (Fin.ext ?_) (Fin.ext ?_)))
        (congrArg l' (congrArg (ix2 0) (Fin.ext ?_)))
    all_goals (dsimp only [Fin.val_zero, Fin.val_one]; try omega)

/-- The buffer starts at zero. -/
abbrev zeros : Stores := [⟨Rect.unit ![0, 0, 0] S2x128x512.size inb_S2x128x512_S2x128x512_0_0_0, k0_pay2 (F := F)⟩]

theorem zeros_apply (h : Fin 2) (d : Fin 128) (r : Fin 512) : View.canon zeros (ix3 h d r) = (0 : EReal) := by
  rw [View.canon_cons_unit_lit inb_S2x128x512_S2x128x512_0_0_0 _ [] (by decide)]
  pointwise [k0_pay2]

/-- What is carried out of the first loop, the stores made by then, and what is carried out of the second. -/
abbrev out0 : Carried := carried xq xk xv 0 zeros 4
abbrev made : Stores := (out0 xq xk xv).2 ++ zeros
abbrev out1 : Carried := carried xq xk xv 1 (made xq xk xv) 4

/-- The last payload of all this holds, per query and value lane, the weighted values over the weights, for some finite number
    subtracted from the scores. -/
theorem whole_apply (r : Fin 128) (h : Fin 2) (g : Fin 4) (x : Fin 64)
    (hs : ∀ h r k, Softmax.Finite (score xq xk h r k)) :
    ∃ M, Softmax.Finite M ∧
      finish (out0 xq xk xv).1.2 (out1 xq xk xv).1.2 (held ((out1 xq xk xv).2 ++ made xq xk xv) 0)
          (held ((out1 xq xk xv).2 ++ made xq xk xv) 1) (ix3 0 r (outLane h g x))
        = Idealize.ShloMosaic.Ideal.div
            (∑ k, value xv (valLane h x) k * Idealize.ShloMosaic.Ideal.exp2 (score xq xk h (col g r) k - M))
            (∑ k, Idealize.ShloMosaic.Ideal.exp2 (score xq xk h (col g r) k - M)) := by
  have d0 := carried_running xq xk xv 0 zeros (valLane h x) (col g r) (zeros_apply ..) (fun n j => hs ..) 4 le_rfl
  have e1 : View.canon (made xq xk xv) (ix3 1 (valLane h x) (col g r)) = (0 : EReal) :=
    (carried_other xq xk xv (by decide) zeros _ _ 4).trans (zeros_apply ..)
  have d1 := carried_running xq xk xv 1 (made xq xk xv) (valLane h x) (col g r) e1 (fun n j => hs ..) 4 le_rfl
  have e0 : held ((out1 xq xk xv).2 ++ made xq xk xv) 0 (ix3 0 (valLane h x) (col g r))
      = View.canon (made xq xk xv) (ix3 0 (valLane h x) (col g r)) :=
    (held_apply ..).trans (carried_other xq xk xv (by decide) _ _ _ 4)
  have hh : h = 0 ∨ h = 1 := by omega
  rcases hh with rfl | rfl
  · obtain ⟨M, hM, e⟩ := d0.quotient _ _ (by decide)
    refine ⟨M, hM, (finish_apply ..).trans ((congrArg₂ _ e0 rfl).trans (e.trans (congrArg₂ _ ?_ ?_)))⟩
    · exact sum_blocks fun k => value xv (valLane 0 x) k * Idealize.ShloMosaic.Ideal.exp2 (score xq xk 0 (col g r) k - M)
    · exact sum_blocks fun k => Idealize.ShloMosaic.Ideal.exp2 (score xq xk 0 (col g r) k - M)
  · obtain ⟨M, hM, e⟩ := d1.quotient _ _ (by decide)
    refine ⟨M, hM, (finish_apply ..).trans ((congrArg₂ _ (held_apply ..) rfl).trans (e.trans (congrArg₂ _ ?_ ?_)))⟩
    · exact sum_blocks fun k => value xv (valLane 1 x) k * Idealize.ShloMosaic.Ideal.exp2 (score xq xk 1 (col g r) k - M)
    · exact sum_blocks fun k => Idealize.ShloMosaic.Ideal.exp2 (score xq xk 1 (col g r) k - M)

/-- THE BLOCK is that payload. -/
theorem block_eq (x0 : S1x1.Idx → EReal) (i : S1x128x512.Idx) :
    out0_A_4 (F := F) c (grid0.coords t) (ms0_0 t) (hs0_0 t) (ms0_1 t) (hs0_1 t) (ms0_2 t) (hs0_2 t) (ms0_3 t) (hs0_3 t)
        (ms0_4 t) (hs0_4 t) scM0_0 (Memref.isWhole_whole _) x0 xq xk xv i
      = finish (out0 xq xk xv).1.2 (out1 xq xk xv).1.2 (held ((out1 xq xk xv).2 ++ made xq xk xv) 0)
          (held ((out1 xq xk xv).2 ++ made xq xk xv) 1) i := by
  have q0 : View.readAt (Elt F) (ms0_1 t).view (Rect.unit (s := S1x2x1x128x512) ![0, 0, 0, 0, 0] ![1, 1, 1, 128, 512]
      inb_S1x2x1x128x512_S1x1x1x128x512_0_0_0_0_0).toLoadRect ((hs0_1 t).unread xq) = queriesOf xq 0 := by
    rw [View.readAt_eq_ld, (hs0_1 t).read_unread]
    exact ld_queries xq 0 _ rfl rfl rfl rfl rfl _
  have q1 : View.readAt (Elt F) (ms0_1 t).view (Rect.unit (s := S1x2x1x128x512) ![0, 1, 0, 0, 0] ![1, 1, 1, 128, 512]
      inb_S1x2x1x128x512_S1x1x1x128x512_0_1_0_0_0).toLoadRect ((hs0_1 t).unread xq) = queriesOf xq 1 := by
    rw [View.readAt_eq_ld, (hs0_1 t).read_unread]
    exact ld_queries xq 1 _ rfl rfl rfl rfl rfl _
  unfold out1 made out0
  rw [← loop0_eq xq xk xv c t zeros 4 le_rfl, ← loop1_eq xq xk xv c t _ 4 le_rfl]
  unfold loop0 loop1
  rw [← q0, ← q1]
  unfold out0_A_4
  refine (congrFun (View.read_writes_eq_canon _ _ _ (cover0_A_4 (F := F) c (grid0.coords t) (ms0_0 t) (hs0_0 t) (ms0_1 t)
    (hs0_1 t) (ms0_2 t) (hs0_2 t) (ms0_3 t) (hs0_3 t) (ms0_4 t) (hs0_4 t) scM0_0 (Memref.isWhole_whole _) x0 xq xk xv))
    _).trans ?_
  unfold kernelRun0_A
  dsimp only
  sl_unfold_words
  rw [View.canon_cons_unit_lit inb_S1x128x512_S1x128x512_0_0_0 _ [] (by decide)]
  rfl

end Loops

/-! ## The array -/

variable (m : (ℓ : Loc nD τ sig) → Buf (Elt F) ℓ) (c : Dev nD)

/-- The grid point of batch entry `b` and query tile `j`. -/
def point (b : Fin 8) (j : Fin 16) : Fin cfg0.N := ⟨16 * b.val + j.val, by show _ < 128; omega⟩

/-- Where each window's block lies at a grid point. -/
theorem index_at : ∀ (b : Fin 8) (j : Fin 16),
    win0_1.index (point b j) = ![b.val, 0, j.val, 0, 0]
      ∧ win0_2.index (point b j) = ![b.val, 0, 0] ∧ win0_3.index (point b j) = ![b.val, 0, 0, 0]
      ∧ win0_4.index (point b j) = ![b.val, j.val, 0] := by decide +kernel

theorem array_apply (b : Fin 8) (j : Fin 16) (r : Fin 128) (x : Fin 512) :
    (dats m 0 c).arrAt 4 cfg0.N (ix3 b (row j r) x)
      = out0_A_4 (F := F) c (grid0.coords (point b j)) (ms0_0 (point b j)) (hs0_0 (point b j)) (ms0_1 (point b j))
          (hs0_1 (point b j)) (ms0_2 (point b j)) (hs0_2 (point b j)) (ms0_3 (point b j)) (hs0_3 (point b j))
          (ms0_4 (point b j)) (hs0_4 (point b j)) scM0_0 (Memref.isWhole_whole _)
          (iblk m c 0 (point b j)) (iblk m c 1 (point b j)) (iblk m c 2 (point b j)) (iblk m c 3 (point b j)) (ix3 0 r x) := by
  have hf : (cfg0.win 4).flush (point b j) = true := by
    have h : ∀ (b : Fin 8) (j : Fin 16), (cfg0.win 4).flush (point b j) = true := by decide +kernel
    exact h b j
  have e := congrFun (Value.blocks4 m c (point b j) hf) (ix3 0 r x)
  rw [Value.flushed4_A m c (point b j)] at e
  have h4 := (index_at b j).2.2.2
  refine Eq.trans (congrArg _ ?_) e
  blk_ext [row, h4]

theorem key_block (b : Fin 8) (j : Fin 16) (k : Fin 2048) (d : Fin 128) :
    iblk m c 2 (point b j) (ix3 0 k d) = m ((c : Thread nD τ).loc main_arg2) (ix3 b k d) := by
  have h := index_at b j
  blk_ext [iblk, V, h]

theorem query_block (b : Fin 8) (j : Fin 16) (h : Fin 2) (d : Fin 128) (r : Fin 512) :
    iblk m c 1 (point b j) (ix5 0 h 0 d r) = m ((c : Thread nD τ).loc main_arg1) (ix5 b h j d r) := by
  have h := index_at b j
  blk_ext [iblk, V, h]

theorem value_block (b : Fin 8) (j : Fin 16) (n : Fin 4) (d : Fin 128) (k : Fin 512) :
    iblk m c 3 (point b j) (ix4 0 n d k) = m ((c : Thread nD τ).loc main_arg3) (ix4 b n d k) := by
  have h := index_at b j
  blk_ext [iblk, V, h]

end Cert.OnlineIdeal.Block

end
-- ==== Proof.OnlineEquation.lean ====
module

public import proofs.«01_k».proof.Proof.OnlineValue
public import proofs.«01_k».proof.Proof.AttentionEquation

@[expose] public section

set_option maxRecDepth 16384

noncomputable section

/-! # The other body's result is the reference's -/

namespace Cert.OnlineIdeal.Block

open Cert.OnlineIdeal Cert.OnlineIdeal.Gen Idealize.ShloMosaic Idealize.ShloMosaic.TcCoe Idealize.SL.Sem
open Cert.AttentionIdeal.Block (F score value outLane col valLane row)

variable (m : (ℓ : Loc nD τ sig) → Buf (Elt F) ℓ) (c : Dev nD)

/-- The queries, the keys and the values as the kernel is given them. -/
abbrev queries : S8x2x16x128x512.Idx → EReal := m ((c : Thread nD τ).loc main_arg1)
abbrev keys : S8x2048x128.Idx → EReal := m ((c : Thread nD τ).loc main_arg2)
abbrev vals : S8x4x128x512.Idx → EReal := m ((c : Thread nD τ).loc main_arg3)

/-- THE EQUATION, where the queries and the keys are finite. -/
theorem array_eq (hq : ∀ i, Softmax.Finite (queries m c i)) (hk : ∀ i, Softmax.Finite (keys m c i)) :
    (dats m 0 c).arrAt 4 cfg0.N
      = Cert.SoftmaxIdeal.Read.val_main_v25 (F := F) (queries m c) (keys m c) (vals m c) := by
  funext i
  obtain ⟨b, j, r, h, g, x, rfl⟩ := Cert.AttentionIdeal.Block.index_cases i
  have eq : ∀ h d r, iblk m c 1 (point b j) (ix5 0 h 0 d r) = queries m c (ix5 b h j d r) := query_block m c b j
  have ek : ∀ k d, iblk m c 2 (point b j) (ix3 0 k d) = keys m c (ix3 b k d) := key_block m c b j
  have ev : ∀ n d k, iblk m c 3 (point b j) (ix4 0 n d k) = vals m c (ix4 b n d k) := value_block m c b j
  have fs : ∀ h r k, Softmax.Finite (score (iblk m c 1 (point b j)) (iblk m c 2 (point b j)) h r k) := fun h r k =>
    Softmax.finite_sum _ fun d => Softmax.finite_mul (by rw [ek]; exact hk _) (by rw [eq]; exact hq _)
  obtain ⟨M, hM, e⟩ := whole_apply _ _ (iblk m c 3 (point b j)) r h g x fs
  refine (array_apply m c b j r (outLane h g x)).trans ((block_eq _ _ _ c (point b j) _ _).trans (e.trans ?_))
  simp only [Cert.AttentionIdeal.Block.score_at eq ek, Cert.AttentionIdeal.Block.value_at ev]
  exact Cert.AttentionIdeal.Block.quotient_eq _ _ _ hq hk b j r h g x hM

end Cert.OnlineIdeal.Block

end
-- ==== Proof.OnlineClaims.lean ====
module

public import proofs.«01_k».proof.Pre_finite_scores
public import proofs.«01_k».proof.Proof.Gen.Online.Frame
public import proofs.«01_k».proof.Proof.OnlineEquation
public import proofs.«01_k».proof.Proof.AttentionClaims

@[expose] public section

noncomputable section

/-! # The attention's other body: what its precondition gives, and the claim -/

namespace Cert.Pre_finite_scores

open Idealize.ShloMosaic

/-- The side conditions of the precondition's operations. -/
theorem facts : Facts where
  bitsLt_bf16_f32 := Pre_finite_arguments.facts.bitsLt_bf16_f32
  bcast_S_S8x2x16x128x512 := Pre_finite_arguments.facts.bcast_S_S8x2x16x128x512
  reducesTo_S8x2x16x128x512_S_d0_1_2_3_4 := Pre_finite_arguments.facts.reducesTo_S8x2x16x128x512_S_d0_1_2_3_4
  h_S_ := Pre_finite_arguments.facts.h_S_
  bcast_S_S8x2048x128 := Pre_finite_arguments.facts.bcast_S_S8x2048x128
  reducesTo_S8x2048x128_S_d0_1_2 := Pre_finite_arguments.facts.reducesTo_S8x2048x128_S_d0_1_2

attribute [local instance] facts

/-- The precondition gives that the queries and the keys are finite. -/
theorem finite (b : S1x1.Idx → EReal) (xq : S8x2x16x128x512.Idx → EReal) (xk : S8x2048x128.Idx → EReal)
    (xv : S8x4x128x512.Idx → EReal) (h : fn (F := Idealize.ShloMosaic.Ideal) b xq xk xv = fun _ => 1#1) :
    (∀ i, Softmax.Finite (xq i)) ∧ ∀ i, Softmax.Finite (xk i) := by
  have h0 := congrFun h (Shape.Idx.first facts.h_S_)
  dsimp only [fn] at h0
  obtain ⟨hq, hk⟩ := IntOp.andi_eq_one.1 h0
  exact ⟨fun i => Pre_finite_arguments.finite_of_abs _ (Host.reduce_andi_all _ _ _ _ _ hq i),
    fun i => Pre_finite_arguments.finite_of_abs _ (Host.reduce_andi_all _ _ _ _ _ hk i)⟩

end Cert.Pre_finite_scores

namespace Cert.Proof.Online

open Idealize.ShloMosaic Idealize.SL.Sem

attribute [local instance] Cert.Pre_finite_scores.facts

/-- THE VALUE: where the precondition holds both programs run and leave the same array. -/
theorem algebraic : algebraic_OnlineIdeal_SoftmaxIdeal_pre_finite_scores := by
  intro m g m' g' hpre hag
  refine ⟨fun c => (OnlineIdeal.Gen.dats m 0 c).arrAt 4 OnlineIdeal.cfg0.N, OnlineIdeal.Value.run_blocks m g, ?_⟩
  refine (θ_run _ _ _).mono (fun r h c => ⟨(h c).1.trans ?_, (h c).2⟩) (SoftmaxIdeal.Value.run m' g')
  obtain ⟨hq, hk⟩ := Pre_finite_scores.finite _ _ _ _ (hpre c)
  have e := OnlineIdeal.Block.array_eq m c hq hk
  obtain ⟨-, e1, e2, e3⟩ := hag c
  refine (SoftmaxIdeal.Read.val_main_v25_eq _ _ _).trans (Eq.trans ?_ e.symm)
  rw [e1, e2, e3]

end Cert.Proof.Online

end
-- ==== Proof.Mixing.lean ====
module

public import proofs.«01_k».proof.Proof.Gen.MixingIdeal.Value
public import proofs.«01_k».proof.Proof.Gen.MixedIdeal.Read
public import Idealize.ShloMosaic.Lib.Pipeline.ValueKit
public import Idealize.ShloMosaic.Lib.Pointwise

@[expose] public section

set_option maxRecDepth 16384

noncomputable section

/-! # The output projection: the kernel's arrays are the reference's

The first result is the residual stream: the token plus the gate times `mixing`, the product of the gated recurrence and the
attention with the weights. The second is `tokens`, that stream normalised and modulated. -/

namespace Cert.Mixing.Entry

open Idealize.ShloMosaic

/-- Lane `d` of a head: the normalised recurrence times its gain times the gate's `t * sigmoid t`. -/
def gated (o g t : Fin 128 → EReal) (d : Fin 128) : EReal :=
  o d * Idealize.ShloMosaic.Ideal.rsqrt
      (Idealize.ShloMosaic.Ideal.div (∑ e, o e * o e) (Idealize.ShloMosaic.Ideal.ofBits .f32 0x43000000#32)
        + Idealize.ShloMosaic.Ideal.ofBits .f32 0x358637BD#32) * g d
    * (t d * Idealize.ShloMosaic.Ideal.div 1 (1 + Idealize.ShloMosaic.Ideal.exp (-t d)))

/-- The head of lane `k` of four heads of 128 lanes, and its place in the head. -/
def headOf (k : Fin 512) : Fin 4 := ⟨k.val / 128, by omega⟩
def inHead (k : Fin 512) : Fin 128 := ⟨k.val % 128, by omega⟩

/-- Lane `e` of head `h`. -/
def lane (h : Fin 4) (e : Fin 128) : Fin 512 := ⟨h.val * 128 + e.val, by omega⟩

/-- The rows of the weights that meet the recurrence, and those that meet the attention. -/
def upper (k : Fin 512) : Fin 1024 := ⟨k.val, by omega⟩
def lower (k : Fin 512) : Fin 1024 := ⟨512 + k.val, by omega⟩

/-- One entry of the product, from the recurrence, its gate, the attention, the gain and a column of the weights. -/
def mixing (o t a : Fin 512 → EReal) (g : Fin 128 → EReal) (w : Fin 1024 → EReal) : EReal :=
  ∑ k, gated (fun e => o (lane (headOf k) e)) g (fun e => t (lane (headOf k) e)) (inHead k) * w (upper k)
    + ∑ k, a k * w (lower k)

/-- One entry of the normalised and modulated stream. -/
def tokens (x g s z : Fin 1024 → EReal) (l : Fin 1024) : EReal :=
  x l * Idealize.ShloMosaic.Ideal.rsqrt
      (Idealize.ShloMosaic.Ideal.div (∑ e, x e * x e) (Idealize.ShloMosaic.Ideal.ofBits .f32 0x44800000#32)
        + Idealize.ShloMosaic.Ideal.ofBits .f32 0x358637BD#32) * g l * (1 + s l) + z l

/-- A sum over the weights' rows is one over the upper rows and one over the lower. -/
theorem sum_halves (f : Fin 1024 → EReal) : ∑ k, f k = ∑ k, f (upper k) + ∑ k, f (lower k) :=
  Fin.sum_univ_add (a := 512) (b := 512) f

end Cert.Mixing.Entry

namespace Cert.MixingIdeal.Entry

open Cert.MixingIdeal Cert.MixingIdeal.Gen Idealize.ShloMosaic Idealize.ShloMosaic.TcCoe Idealize.SL.Sem
open Cert.Mixing.Entry

abbrev F := Idealize.ShloMosaic.Ideal

theorem head_apply (a b t : S1x512x128.Idx → EReal) (g : S1x1x128.Idx → EReal) (r : Fin 512) (d : Fin 128) :
    k0_pay7 (F := F) a b g t (ix2 r d) = gated (fun e => a (ix3 0 r e) + b (ix3 0 r e)) (fun e => g (ix3 0 0 e))
      (fun e => t (ix3 0 r e)) d := by
  pointwise [k0_pay7, gated]
  simp only [zero_sub]

/-- The product as the kernel computes it, the heads apart. -/
abbrev product (a b t : Fin 4 → S1x512x128.Idx → EReal) (g : S1x1x128.Idx → EReal) (w : S1x512x1024.Idx → EReal)
    (v : S1x512x512.Idx → EReal) (w' : S1x512x1024.Idx → EReal) : S512x1024.Idx → EReal :=
  k0_pay11 (F := F) (k0_pay6 (k0_pay3 (a 0) (b 0) g) (k0_pay4 (t 0)) (k0_pay5 (t 0))) (k0_pay7 (a 1) (b 1) g (t 1))
    (k0_pay9 (k0_pay8 (a 2)) (b 2) g (t 2)) (k0_pay10 (a 3) (b 3)) g (t 3) w v w'

/-- Four heads side by side. -/
abbrev joined (h : Fin 4 → S512x128.Idx → EReal) : S512x512.Idx → EReal :=
  concatenate S512x512 1 [⟨S512x128, h 0⟩, ⟨S512x128, h 1⟩, ⟨S512x128, h 2⟩, ⟨S512x128, h 3⟩]
    concatenates_S512x128_S512x128_S512x128_S512x128_S512x512_d1

theorem joined_apply (h : Fin 4 → S512x128.Idx → EReal) (r k : Fin 512) :
    joined h (ix2 r k) = h (headOf k) (ix2 r (inHead k)) := by
  pointwise [joined]
  unfold headOf inHead
  split_ifs
  all_goals
    refine congrArg₂ (fun (a : Fin 4) d => h a (ix2 r d)) (Fin.ext ?_) (Fin.ext ?_)
    all_goals (dsimp only [Fin.val_zero, Fin.val_one, Fin.val_two]; omega)

/-- The product of the heads with the upper rows plus that of the attention with the lower. -/
abbrev halves (h : FVec F S512x512 .bf16) (w : FVec F S1x512x1024 .bf16) (v : FVec F S1x512x512 .bf16)
    (w' : FVec F S1x512x1024 .bf16) : FVec F S512x1024 .f32 :=
  addf (matmul dot_S512x512_S512x1024_S512x1024_1_0_0_1_n_n none h
      (shapeCast S512x1024 w shapeCasts_S1x512x1024_S512x1024) (constant S512x1024 .f32 0x00000000#32))
    (matmul dot_S512x512_S512x1024_S512x1024_1_0_0_1_n_n none (shapeCast S512x512 v shapeCasts_S1x512x512_S512x512)
      (shapeCast S512x1024 w' shapeCasts_S1x512x1024_S512x1024) (constant S512x1024 .f32 0x00000000#32))

theorem product_eq (a b t : Fin 4 → S1x512x128.Idx → EReal) (g : S1x1x128.Idx → EReal) (w : S1x512x1024.Idx → EReal)
    (v : S1x512x512.Idx → EReal) (w' : S1x512x1024.Idx → EReal) :
    product a b t g w v w' = halves (joined fun h => k0_pay7 (F := F) (a h) (b h) g (t h)) w v w' := rfl

theorem halves_apply (h : S512x512.Idx → EReal) (w : S1x512x1024.Idx → EReal)
    (v : S1x512x512.Idx → EReal) (w' : S1x512x1024.Idx → EReal) (r : Fin 512) (l : Fin 1024) :
    halves h w v w' (ix2 r l) = ∑ k, h (ix2 r k) * w (ix3 0 k l) + ∑ k, v (ix3 0 r k) * w' (ix3 0 k l) := by
  pointwise [halves]

theorem stream_apply (p : S512x1024.Idx → EReal) (x : S1x512x1024.Idx → EReal) (s : S1x1x1024.Idx → EReal) (r : Fin 512)
    (l : Fin 1024) : k0_pay13 (F := F) p x s (ix3 0 r l) = x (ix3 0 r l) + s (ix3 0 0 l) * p (ix2 r l) := by
  pointwise [k0_pay13, k0_pay12]

theorem tokens_apply (p : S512x1024.Idx → EReal) (x : S1x512x1024.Idx → EReal) (s g c z : S1x1x1024.Idx → EReal) (r : Fin 512)
    (l : Fin 1024) : k0_pay15 (F := F) (k0_pay14 p x s g c z) (ix3 0 r l)
      = tokens (fun d => x (ix3 0 r d) + s (ix3 0 0 d) * p (ix2 r d)) (fun d => g (ix3 0 0 d)) (fun d => c (ix3 0 0 d))
          (fun d => z (ix3 0 0 d)) l := by
  pointwise [k0_pay15, k0_pay14, k0_pay12, tokens]

/-! ## The blocks of the two results -/

section Blocks

/-- What a load reads of a buffer that holds `x`. -/
abbrev seen {S : Shape} {e : EltTy} {M : Memref sig .tc .vmem S e} (h : M.IsWhole) (x : S.Idx → Elt F e) (R : Rect S) :=
  View.readAt (Elt F) M.view R.toLoadRect (h.unread x)

theorem seen_eq {S : Shape} {e : EltTy} {M : Memref sig .tc .vmem S e} (h : M.IsWhole) (x : S.Idx → Elt F e) (R : Rect S) :
    seen h x R = View.ld x R := by
  rw [seen, View.readAt_eq_ld, h.read_unread]

theorem head_fits (n : Fin 4) (a : Fin 3) : (![0, 0, 128 * n.val] : Fin 3 → Nat) a + (![1, 512, 128] : Fin 3 → Nat) a
    ≤ S1x512x512.size a := by
  fin_cases n <;> fin_cases a <;> decide

theorem row_fits (n : Fin 6) (a : Fin 3) : (![0, n.val, 0] : Fin 3 → Nat) a + (![1, 1, 1024] : Fin 3 → Nat) a
    ≤ S1x6x1024.size a := by
  fin_cases n <;> fin_cases a <;> decide

/-- The loads of the lanes of one head, and of one row of the modulation. -/
abbrev seenHead {M : Memref sig .tc .vmem S1x512x512 .bf16} (h : M.IsWhole) (x : S1x512x512.Idx → EReal) (n : Fin 4) :
    S1x512x128.Idx → EReal := seen (e := .bf16) h x (Rect.unit (s := S1x512x512) ![0, 0, 128 * n.val] ![1, 512, 128] (head_fits n))

variable (c : Dev nD) (t : Fin cfg0.N) (x0 x1 x2 x3 : S1x512x512.Idx → EReal) (x4 : S1x512x1024.Idx → EReal)
  (x5 : S1x6x1024.Idx → EReal) (x6 : S1x1x128.Idx → EReal) (x7 : S1x1024x1024.Idx → EReal) (x8 : S1x1x1024.Idx → EReal)
  (x9 : S1x1024x128.Idx → EReal) (x10 : S1x1x128.Idx → EReal) (x11 : S512x512.Idx → EReal)

/-- What the body loads, and the product it takes of it. -/
abbrev rowAt (n : Fin 6) : S1x1x1024.Idx → EReal :=
  seen (e := .f32) (hs0_5 t) x5 (Rect.unit (s := S1x6x1024) ![0, n.val, 0] ![1, 1, 1024] (row_fits n))

abbrev streamAt : S1x512x1024.Idx → EReal :=
  seen (e := .f32) (hs0_4 t) x4 (Rect.unit (s := S1x512x1024) ![0, 0, 0] S1x512x1024.size inb_S1x512x1024_S1x512x1024_0_0_0)

abbrev gainAt : S1x1x1024.Idx → EReal :=
  seen (e := .f32) (hs0_8 t) x8 (Rect.unit (s := S1x1x1024) ![0, 0, 0] S1x1x1024.size inb_S1x1x1024_S1x1x1024_0_0_0)

abbrev productAt : S512x1024.Idx → EReal :=
  product (seenHead (hs0_0 t) x0) (seenHead (hs0_1 t) x1) (seenHead (hs0_2 t) x2)
    (seen (e := .f32) (hs0_6 t) x6 (Rect.unit (s := S1x1x128) ![0, 0, 0] S1x1x128.size inb_S1x1x128_S1x1x128_0_0_0))
    (seen (e := .bf16) (hs0_7 t) x7
      (Rect.unit (s := S1x1024x1024) ![0, 0, 0] S1x512x1024.size inb_S1x1024x1024_S1x512x1024_0_0_0))
    (seen (e := .bf16) (hs0_3 t) x3 (Rect.unit (s := S1x512x512) ![0, 0, 0] S1x512x512.size inb_S1x512x512_S1x512x512_0_0_0))
    (seen (e := .bf16) (hs0_7 t) x7
      (Rect.unit (s := S1x1024x1024) ![0, 512, 0] S1x512x1024.size inb_S1x1024x1024_S1x512x1024_0_512_0))

theorem productAt_apply (r : Fin 512) (l : Fin 1024) : productAt t x0 x1 x2 x3 x6 x7 (ix2 r l)
    = mixing (fun k => x0 (ix3 0 r k) + x1 (ix3 0 r k)) (fun k => x2 (ix3 0 r k)) (fun k => x3 (ix3 0 r k))
        (fun e => x6 (ix3 0 0 e)) (fun k => x7 (ix3 0 k l)) := by
  have hd : ∀ {M : Memref sig .tc .vmem S1x512x512 .bf16} (h : M.IsWhole) (x : S1x512x512.Idx → EReal) (n : Fin 4) (e : Fin 128),
      seenHead h x n (ix3 0 r e) = x (ix3 0 r (lane n e)) := fun h x n e =>
    (congrFun (seen_eq ..) _).trans (View.ld_unit_apply_of _ _ _ _ _ _ fun a => by
      fin_cases a
      exacts [rfl, (Nat.zero_add _).symm, congrArg (· + e.val) (Nat.mul_comm _ _)])
  have hg : seen (e := .f32) (hs0_6 t) x6 (Rect.unit (s := S1x1x128) ![0, 0, 0] S1x1x128.size inb_S1x1x128_S1x1x128_0_0_0) = x6 :=
    (seen_eq ..).trans (View.ld_unit_lit inb_S1x1x128_S1x1x128_0_0_0 _ (by decide))
  have ha : seen (e := .bf16) (hs0_3 t) x3 (Rect.unit (s := S1x512x512) ![0, 0, 0] S1x512x512.size
      inb_S1x512x512_S1x512x512_0_0_0) = x3 := (seen_eq ..).trans (View.ld_unit_lit inb_S1x512x512_S1x512x512_0_0_0 _ (by decide))
  have hu : ∀ k, seen (e := .bf16) (hs0_7 t) x7 (Rect.unit (s := S1x1024x1024) ![0, 0, 0] S1x512x1024.size
      inb_S1x1024x1024_S1x512x1024_0_0_0) (ix3 0 k l) = x7 (ix3 0 (upper k) l) := fun k =>
    (congrFun (seen_eq ..) _).trans (View.ld_unit_apply_of _ _ _ _ _ _ fun a => by
      fin_cases a
      exacts [rfl, (Nat.zero_add _).symm, (Nat.zero_add _).symm])
  have hl : ∀ k, seen (e := .bf16) (hs0_7 t) x7 (Rect.unit (s := S1x1024x1024) ![0, 512, 0] S1x512x1024.size
      inb_S1x1024x1024_S1x512x1024_0_512_0) (ix3 0 k l) = x7 (ix3 0 (lower k) l) := fun k =>
    (congrFun (seen_eq ..) _).trans (View.ld_unit_apply_of _ _ _ _ _ _ fun a => by
      fin_cases a
      exacts [rfl, rfl, (Nat.zero_add _).symm])
  refine (congrFun (product_eq ..) _).trans ((halves_apply ..).trans ?_)
  unfold mixing
  refine congrArg₂ (· + ·) (Finset.sum_congr rfl fun k _ => congrArg₂ (· * ·) ?_ (hu k))
    (Finset.sum_congr rfl fun k _ => congrArg₂ (· * ·) (congrFun ha _) (hl k))
  refine (joined_apply ..).trans ((head_apply ..).trans ?_)
  rw [hg]
  simp only [hd]

theorem rowAt_apply (n : Fin 6) (l : Fin 1024) : rowAt t x5 n (ix3 0 0 l) = x5 (ix3 0 n l) :=
  (congrFun (seen_eq ..) _).trans (View.ld_unit_apply_of _ _ _ _ _ _ fun a => by
    fin_cases a
    exacts [rfl, rfl, (Nat.zero_add _).symm])

theorem streamAt_eq : streamAt t x4 = x4 :=
  (seen_eq ..).trans (View.ld_unit_lit inb_S1x512x1024_S1x512x1024_0_0_0 _ (by decide))

theorem gainAt_eq : gainAt t x8 = x8 :=
  (seen_eq ..).trans (View.ld_unit_lit inb_S1x1x1024_S1x1x1024_0_0_0 _ (by decide))

theorem block12_A (h : cond0_0 (grid0.coords t)) (i : S1x512x1024.Idx) :
    out0_A_12
        (F := F) c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) (ms0_12 t) (hs0_12 t) (ms0_13 t) (hs0_13 t) (ms0_14 t) (hs0_14 t) (ms0_15 t)
        (hs0_15 t) scM0_0 (Memref.isWhole_whole _) h x0 x1 x2 x3 x4 x5 x6 x7 x8 x9 x10 x11 i
      = k0_pay13 (F := F) (productAt t x0 x1 x2 x3 x6 x7) (streamAt t x4) (rowAt t x5 2) i := by
  unfold out0_A_12
  refine (congrFun (View.read_writes_eq_canon _ _ _ (cover0_A_12
    (F := F) c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t) (hs0_15 t)
    scM0_0 (Memref.isWhole_whole _) h x0 x1 x2 x3 x4 x5 x6 x7 x8 x9 x10 x11)) _).trans ?_
  unfold kernelRun0_A
  dsimp only
  sl_unfold_words
  rw [View.canon_cons_unit_lit inb_S1x512x1024_S1x512x1024_0_0_0 _ [] (by decide)]
  rfl

theorem block12_B (h : ¬cond0_0 (grid0.coords t)) (s : S1x128.Idx → EReal) (i : S1x512x1024.Idx) :
    out0_B_12
        (F := F) c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) (ms0_12 t) (hs0_12 t) (ms0_13 t) (hs0_13 t) (ms0_14 t) (hs0_14 t) (ms0_15 t)
        (hs0_15 t) scM0_0 (Memref.isWhole_whole _) h x0 x1 x2 x3 x4 x5 x6 x7 x8 x9 x10 x11 s i
      = k0_pay13 (F := F) (productAt t x0 x1 x2 x3 x6 x7) (streamAt t x4) (rowAt t x5 2) i := by
  unfold out0_B_12
  refine (congrFun (View.read_writes_eq_canon _ _ _ (cover0_B_12
    (F := F) c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t) (hs0_15 t)
    scM0_0 (Memref.isWhole_whole _) h x0 x1 x2 x3 x4 x5 x6 x7 x8 x9 x10 x11 s)) _).trans ?_
  unfold kernelRun0_B
  dsimp only
  sl_unfold_words
  rw [View.canon_cons_unit_lit inb_S1x512x1024_S1x512x1024_0_0_0 _ [] (by decide)]
  rfl

theorem block13_A (h : cond0_0 (grid0.coords t)) (i : S1x512x1024.Idx) :
    out0_A_13
        (F := F) c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) (ms0_12 t) (hs0_12 t) (ms0_13 t) (hs0_13 t) (ms0_14 t) (hs0_14 t) (ms0_15 t)
        (hs0_15 t) scM0_0 (Memref.isWhole_whole _) h x0 x1 x2 x3 x4 x5 x6 x7 x8 x9 x10 x11 i
      = k0_pay15 (F := F) (k0_pay14 (productAt t x0 x1 x2 x3 x6 x7) (streamAt t x4) (rowAt t x5 2) (gainAt t x8) (rowAt t x5 4) (rowAt t x5 3)) i := by
  unfold out0_A_13
  refine (congrFun (View.read_writes_eq_canon _ _ _ (cover0_A_13
    (F := F) c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t) (hs0_15 t)
    scM0_0 (Memref.isWhole_whole _) h x0 x1 x2 x3 x4 x5 x6 x7 x8 x9 x10 x11)) _).trans ?_
  unfold kernelRun0_A
  dsimp only
  sl_unfold_words
  rw [View.canon_cons_unit_lit inb_S1x512x1024_S1x512x1024_0_0_0 _ [] (by decide)]
  rfl

theorem block13_B (h : ¬cond0_0 (grid0.coords t)) (s : S1x128.Idx → EReal) (i : S1x512x1024.Idx) :
    out0_B_13
        (F := F) c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) (ms0_12 t) (hs0_12 t) (ms0_13 t) (hs0_13 t) (ms0_14 t) (hs0_14 t) (ms0_15 t)
        (hs0_15 t) scM0_0 (Memref.isWhole_whole _) h x0 x1 x2 x3 x4 x5 x6 x7 x8 x9 x10 x11 s i
      = k0_pay15 (F := F) (k0_pay14 (productAt t x0 x1 x2 x3 x6 x7) (streamAt t x4) (rowAt t x5 2) (gainAt t x8) (rowAt t x5 4) (rowAt t x5 3)) i := by
  unfold out0_B_13
  refine (congrFun (View.read_writes_eq_canon _ _ _ (cover0_B_13
    (F := F) c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t) (hs0_15 t)
    scM0_0 (Memref.isWhole_whole _) h x0 x1 x2 x3 x4 x5 x6 x7 x8 x9 x10 x11 s)) _).trans ?_
  unfold kernelRun0_B
  dsimp only
  sl_unfold_words
  rw [View.canon_cons_unit_lit inb_S1x512x1024_S1x512x1024_0_0_0 _ [] (by decide)]
  rfl

end Blocks

/-! ## The arrays -/

variable (m : (ℓ : Loc nD τ sig) → Buf (Elt F) ℓ) (c : Dev nD)

/-- The grid point of batch entry `b` and row tile `j`. -/
def point (b : Fin 8) (j : Fin 4) : Fin cfg0.N := ⟨4 * b.val + j.val, by show _ < 32; omega⟩

/-- Where each window's block lies at a grid point. -/
theorem index_at : ∀ (b : Fin 8) (j : Fin 4),
    win0_0.index (point b j) = ![b.val, j.val, 0] ∧ win0_1.index (point b j) = ![b.val, j.val, 0]
      ∧ win0_2.index (point b j) = ![b.val, j.val, 4] ∧ win0_3.index (point b j) = ![b.val, j.val, 0]
      ∧ win0_4.index (point b j) = ![b.val, j.val, 0] ∧ win0_5.index (point b j) = ![b.val, 0, 0]
      ∧ win0_6.index (point b j) = ![0, 0, 0] ∧ win0_7.index (point b j) = ![0, 0, 0]
      ∧ win0_8.index (point b j) = ![0, 0, 0] ∧ win0_12.index (point b j) = ![b.val, j.val, 0]
      ∧ win0_13.index (point b j) = ![b.val, j.val, 0] := by decide +kernel

/-- Row `r` of tile `j`. -/
def row (j : Fin 4) (r : Fin 512) : Fin 2048 := ⟨512 * j.val + r.val, by omega⟩

/-- The blocks of the two results at a grid point, of what the windows hold there. -/
abbrev streamBlock (t : Fin cfg0.N) : S1x512x1024.Idx → EReal :=
  k0_pay13 (F := F) (productAt t (iblk m c 0 t) (iblk m c 1 t) (X0_2 m c t) (iblk m c 3 t) (iblk m c 6 t) (iblk m c 7 t))
    (streamAt t (iblk m c 4 t)) (rowAt t (iblk m c 5 t) 2)

abbrev tokensBlock (t : Fin cfg0.N) : S1x512x1024.Idx → EReal :=
  k0_pay15 (F := F) (k0_pay14
    (productAt t (iblk m c 0 t) (iblk m c 1 t) (X0_2 m c t) (iblk m c 3 t) (iblk m c 6 t) (iblk m c 7 t))
    (streamAt t (iblk m c 4 t)) (rowAt t (iblk m c 5 t) 2) (gainAt t (iblk m c 8 t)) (rowAt t (iblk m c 5 t) 4)
    (rowAt t (iblk m c 5 t) 3))

theorem stream_block (b : Fin 8) (j : Fin 4) (r : Fin 512) (l : Fin 1024) :
    (dats m 0 c).arrAt 12 cfg0.N (ix3 b (row j r) l) = streamBlock m c (point b j) (ix3 0 r l) := by
  have hf : (cfg0.win 12).flush (point b j) = true := by
    have h : ∀ (b : Fin 8) (j : Fin 4), (cfg0.win 12).flush (point b j) = true := by decide +kernel
    exact h b j
  have e := congrFun (Value.blocks12 m c (point b j) hf) (ix3 0 r l)
  have hi := (index_at b j).2.2.2.2.2.2.2.2.2.1
  refine Eq.trans (congrArg _ (by blk_ext [row, hi])) (e.trans ?_)
  by_cases h0 : (point b j).val % 32 = 0
  · rw [Value.flushed12_A m c _ h0]
    exact block12_A c _ _ _ _ _ _ _ _ _ _ _ _ _ _ _
  · rw [Value.flushed12_B m c _ h0]
    exact block12_B c _ _ _ _ _ _ _ _ _ _ _ _ _ _ _ _

theorem tokens_block (b : Fin 8) (j : Fin 4) (r : Fin 512) (l : Fin 1024) :
    (dats m 0 c).arrAt 13 cfg0.N (ix3 b (row j r) l) = tokensBlock m c (point b j) (ix3 0 r l) := by
  have hf : (cfg0.win 13).flush (point b j) = true := by
    have h : ∀ (b : Fin 8) (j : Fin 4), (cfg0.win 13).flush (point b j) = true := by decide +kernel
    exact h b j
  have e := congrFun (Value.blocks13 m c (point b j) hf) (ix3 0 r l)
  have hi := (index_at b j).2.2.2.2.2.2.2.2.2.2
  refine Eq.trans (congrArg _ (by blk_ext [row, hi])) (e.trans ?_)
  by_cases h0 : (point b j).val % 32 = 0
  · rw [Value.flushed13_A m c _ h0]
    exact block13_A c _ _ _ _ _ _ _ _ _ _ _ _ _ _ _
  · rw [Value.flushed13_B m c _ h0]
    exact block13_B c _ _ _ _ _ _ _ _ _ _ _ _ _ _ _ _

theorem forward_block (b : Fin 8) (j : Fin 4) (r k : Fin 512) :
    iblk m c 0 (point b j) (ix3 0 r k) = m ((c : Thread nD τ).loc main_arg0) (ix3 b (row j r) k) := by
  have h := index_at b j
  blk_ext [iblk, V, row, h]

theorem backward_block (b : Fin 8) (j : Fin 4) (r k : Fin 512) :
    iblk m c 1 (point b j) (ix3 0 r k) = m ((c : Thread nD τ).loc main_arg1) (ix3 b (row j r) k) := by
  have h := index_at b j
  blk_ext [iblk, V, row, h]

theorem gate_block (b : Fin 8) (j : Fin 4) (r k : Fin 512) :
    X0_2 m c (point b j) (ix3 0 r k)
      = m ((c : Thread nD τ).loc main_arg2) (ix3 b (row j r) ⟨2048 + k.val, by omega⟩) := by
  have h := (index_at b j).2.2.1
  unfold X0_2 Pipeline.Window.fill
  rw [dif_pos (moved0_2 (point b j) _)]
  blk_ext [iblk, V, row, h]

theorem attended_block (b : Fin 8) (j : Fin 4) (r k : Fin 512) :
    iblk m c 3 (point b j) (ix3 0 r k) = m ((c : Thread nD τ).loc main_arg3) (ix3 b (row j r) k) := by
  have h := index_at b j
  blk_ext [iblk, V, row, h]

theorem token_block (b : Fin 8) (j : Fin 4) (r : Fin 512) (l : Fin 1024) :
    iblk m c 4 (point b j) (ix3 0 r l) = m ((c : Thread nD τ).loc main_arg4) (ix3 b (row j r) l) := by
  have h := index_at b j
  blk_ext [iblk, V, row, h]

theorem mod_block (b : Fin 8) (j : Fin 4) (n : Fin 6) (l : Fin 1024) :
    iblk m c 5 (point b j) (ix3 0 n l) = m ((c : Thread nD τ).loc main_arg5) (ix3 ⟨b.val, by omega⟩ n l) := by
  have h := index_at b j
  blk_ext [iblk, V, h]

theorem head_gain_block (b : Fin 8) (j : Fin 4) (e : Fin 128) :
    iblk m c 6 (point b j) (ix3 0 0 e) = m ((c : Thread nD τ).loc main_arg6) (ix3 0 0 e) := by
  have h := index_at b j
  blk_ext [iblk, V, h]

theorem weight_block (b : Fin 8) (j : Fin 4) (k l : Fin 1024) :
    iblk m c 7 (point b j) (ix3 0 k l) = m ((c : Thread nD τ).loc main_arg7) (ix3 0 k l) := by
  have h := index_at b j
  blk_ext [iblk, V, h]

theorem gain_block (b : Fin 8) (j : Fin 4) (l : Fin 1024) :
    iblk m c 8 (point b j) (ix3 0 0 l) = m ((c : Thread nD τ).loc main_arg8) (ix3 0 0 l) := by
  have h := index_at b j
  blk_ext [iblk, V, h]

/-- An entry of the residual stream. -/
def streamCell (o o' : S8x2048x512.Idx → EReal) (p : S8x2048x3328.Idx → EReal) (a : S8x2048x512.Idx → EReal)
    (x : S8x2048x1024.Idx → EReal) (s : S32x6x1024.Idx → EReal) (g : S2x1x128.Idx → EReal) (w : S2x1024x1024.Idx → EReal)
    (b : Fin 8) (q : Fin 2048) (l : Fin 1024) : EReal :=
  x (ix3 b q l) + s (ix3 ⟨b.val, by omega⟩ 2 l) *
    mixing (fun k => o (ix3 b q k) + o' (ix3 b q k)) (fun k => p (ix3 b q ⟨2048 + k.val, by omega⟩))
      (fun k => a (ix3 b q k)) (fun e => g (ix3 0 0 e)) (fun k => w (ix3 0 k l))

/-- The same of the kernel's arguments. -/
abbrev cellOf : Fin 8 → Fin 2048 → Fin 1024 → EReal :=
  streamCell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- It is what the blocks give. -/
theorem cell_block (b : Fin 8) (j : Fin 4) (r : Fin 512) (l : Fin 1024) :
    streamAt (point b j) (iblk m c 4 (point b j)) (ix3 0 r l) + rowAt (point b j) (iblk m c 5 (point b j)) 2 (ix3 0 0 l) *
      productAt (point b j) (iblk m c 0 (point b j)) (iblk m c 1 (point b j)) (X0_2 m c (point b j)) (iblk m c 3 (point b j))
        (iblk m c 6 (point b j)) (iblk m c 7 (point b j)) (ix2 r l) = cellOf m c b (row j r) l := by
  rw [streamAt_eq]
  refine congrArg₂ (fun p q : EReal => p + q) (token_block ..) (congrArg₂ (fun p q : EReal => p * q) ((rowAt_apply ..).trans (mod_block ..))
    ((productAt_apply ..).trans ?_))
  simp only [forward_block, backward_block, gate_block, attended_block, head_gain_block, weight_block]

theorem stream_array (b : Fin 8) (j : Fin 4) (r : Fin 512) (l : Fin 1024) :
    (dats m 0 c).arrAt 12 cfg0.N (ix3 b (row j r) l) = cellOf m c b (row j r) l :=
  (stream_block m c b j r l).trans ((stream_apply ..).trans (cell_block ..))

theorem tokens_array (b : Fin 8) (j : Fin 4) (r : Fin 512) (l : Fin 1024) :
    (dats m 0 c).arrAt 13 cfg0.N (ix3 b (row j r) l)
      = tokens (cellOf m c b (row j r)) (fun d => m ((c : Thread nD τ).loc main_arg8) (ix3 0 0 d))
          (fun d => m ((c : Thread nD τ).loc main_arg5) (ix3 ⟨b.val, by omega⟩ 4 d))
          (fun d => m ((c : Thread nD τ).loc main_arg5) (ix3 ⟨b.val, by omega⟩ 3 d)) l := by
  refine (tokens_block m c b j r l).trans ((tokens_apply ..).trans ?_)
  rw [gainAt_eq, funext (cell_block m c b j r)]
  simp only [rowAt_apply, gain_block, mod_block]

end Cert.MixingIdeal.Entry

namespace Cert.MixedIdeal.Entry

open Cert.MixedIdeal Cert.MixedIdeal.Gen Cert.MixedIdeal.Read Idealize.ShloMosaic Idealize.SL.Sem
open Cert.Mixing.Entry

abbrev F := Idealize.ShloMosaic.Ideal

theorem gated_at (o o' : S8x2048x512.Idx → EReal) (p : S8x2048x3328.Idx → EReal) (g : S2x1x128.Idx → EReal)
    (b : Fin 8) (q : Fin 2048) (k : Fin 512) : val_main_v24 (F := F) o o' p g (ix3 b q k)
      = gated (fun e => o (ix3 b q (lane (headOf k) e)) + o' (ix3 b q (lane (headOf k) e))) (fun e => g (ix3 0 0 e))
          (fun e => p (ix3 b q ⟨2048 + (lane (headOf k) e).val, by omega⟩)) (inHead k) := by
  unfold val_main_v24 val_main_v23 val_main_v22 val_main_v21 val_main_call0_v5 val_main_call0_v4 val_main_call0_cst_0
    val_main_call0_v3 val_main_call0_v2 val_main_call0_cst val_main_call0_v1 val_main_call0_v0 val_main_v20 val_main_v19
    val_main_v18 val_main_v17 val_main_v16 val_main_v15
    val_main_v14 val_main_v13 val_main_v12 val_main_v11 val_main_cst_1 val_main_v10 val_main_v9 val_main_cst_0
    val_main_v8 val_main_v7 val_main_cst val_main_v6 val_main_v5 val_main_v4 val_main_v3 val_main_v2 val_main_v1 val_main_v0
  pointwise [gated, lane, headOf, inHead]
  simp only [Nat.div_add_mod']

theorem mixing_at (o o' : S8x2048x512.Idx → EReal) (p : S8x2048x3328.Idx → EReal) (a : S8x2048x512.Idx → EReal)
    (g : S2x1x128.Idx → EReal) (w : S2x1024x1024.Idx → EReal) (b : Fin 8) (q : Fin 2048) (l : Fin 1024) :
    val_main_v30 (F := F) o o' p a g w (ix3 b q l)
      = mixing (fun k => o (ix3 b q k) + o' (ix3 b q k)) (fun k => p (ix3 b q ⟨2048 + k.val, by omega⟩))
          (fun k => a (ix3 b q k)) (fun e => g (ix3 0 0 e)) (fun k => w (ix3 0 k l)) := by
  unfold val_main_v30 val_main_v29 val_main_v28 val_main_v27 val_main_v26 val_main_v25 mixing
  simp only [← gated_at]
  generalize val_main_v24 (F := F) o o' p g = y
  pointwise
  rfl

theorem stream_at (o o' : S8x2048x512.Idx → EReal) (p : S8x2048x3328.Idx → EReal) (a : S8x2048x512.Idx → EReal)
    (x : S8x2048x1024.Idx → EReal) (m : S32x6x1024.Idx → EReal)
    (g : S2x1x128.Idx → EReal) (w : S2x1024x1024.Idx → EReal) (b : Fin 8) (q : Fin 2048) (l : Fin 1024) :
    val_main_v36 (F := F) o o' p a x m g w (ix3 b q l)
      = x (ix3 b q l) + m (ix3 ⟨b.val, by omega⟩ 2 l) *
        mixing (fun k => o (ix3 b q k) + o' (ix3 b q k)) (fun k => p (ix3 b q ⟨2048 + k.val, by omega⟩))
          (fun k => a (ix3 b q k)) (fun e => g (ix3 0 0 e)) (fun k => w (ix3 0 k l)) := by
  rw [← mixing_at]
  unfold val_main_v36 val_main_v35 val_main_v34 val_main_v33 val_main_v32 val_main_v31
  generalize val_main_v30 (F := F) o o' p a g w = y
  pointwise

theorem tokens_at (o o' : S8x2048x512.Idx → EReal) (p : S8x2048x3328.Idx → EReal) (a : S8x2048x512.Idx → EReal)
    (x : S8x2048x1024.Idx → EReal) (m : S32x6x1024.Idx → EReal)
    (g : S2x1x128.Idx → EReal) (w : S2x1024x1024.Idx → EReal) (n : S2x1x1024.Idx → EReal) (b : Fin 8) (q : Fin 2048)
    (l : Fin 1024) : val_main_v63 (F := F) o o' p a x m g w n (ix3 b q l)
      = tokens (fun d => val_main_v36 (F := F) o o' p a x m g w (ix3 b q d)) (fun d => n (ix3 0 0 d))
          (fun d => m (ix3 ⟨b.val, by omega⟩ 4 d)) (fun d => m (ix3 ⟨b.val, by omega⟩ 3 d)) l := by
  unfold val_main_v63 val_main_v62 val_main_v61 val_main_v60 val_main_v59 val_main_v58 val_main_v57 val_main_v56 val_main_v55
    val_main_cst_5 val_main_v54 val_main_v53 val_main_v52 val_main_v51 val_main_v50 val_main_v49 val_main_v48 val_main_v47
    val_main_v46 val_main_v45 val_main_v44 val_main_cst_4 val_main_v43 val_main_v42 val_main_cst_3 val_main_v41 val_main_v40
    val_main_cst_2 val_main_v39 val_main_v38 val_main_v37
  generalize val_main_v36 (F := F) o o' p a x m g w = y
  pointwise [tokens]

end Cert.MixedIdeal.Entry

namespace Cert.MixingIdeal.Entry

open Cert.MixingIdeal Cert.MixingIdeal.Gen Idealize.ShloMosaic Idealize.ShloMosaic.TcCoe Idealize.SL.Sem
open Cert.Mixing.Entry

variable (m : (ℓ : Loc nD τ sig) → Buf (Elt F) ℓ) (c : Dev nD)

/-- An index of either result is a batch entry, a row of a tile and a column. -/
theorem split_index (i : S8x2048x1024.Idx) :
    ∃ (b : Fin 8) (j : Fin 4) (r : Fin 512) (l : Fin 1024), i = ix3 b (row j r) l :=
  ⟨i 0, ⟨(i 1).val / 512, by have h : (i 1).val < 2048 := (i 1).isLt; omega⟩, ⟨(i 1).val % 512, by omega⟩, i 2, funext fun a => by
    fin_cases a
    exacts [rfl, Fin.ext (Nat.div_add_mod _ _).symm, rfl]⟩

/-- The kernel leaves the reference's residual stream. -/
theorem stream_eq : (dats m 0 c).arrAt 12 cfg0.N
    = Cert.MixedIdeal.Read.val_main_v36 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  funext i
  obtain ⟨b, j, r, l, rfl⟩ := split_index i
  exact (stream_array m c b j r l).trans (Cert.MixedIdeal.Entry.stream_at _ _ _ _ _ _ _ _ b (row j r) l).symm

/-- And its normalised tokens. -/
theorem tokens_eq : (dats m 0 c).arrAt 13 cfg0.N
    = Cert.MixedIdeal.Read.val_main_v63 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  funext i
  obtain ⟨b, j, r, l, rfl⟩ := split_index i
  refine (tokens_array m c b j r l).trans (Eq.trans ?_ (Cert.MixedIdeal.Entry.tokens_at _ _ _ _ _ _ _ _ _ b (row j r) l).symm)
  exact congrArg (fun x => tokens x _ _ _ l) (funext fun d => (Cert.MixedIdeal.Entry.stream_at _ _ _ _ _ _ _ _ b (row j r) d).symm)

end Cert.MixingIdeal.Entry

end
-- ==== Proof.MixingClaims.lean ====
module

public import proofs.«01_k».proof.Defs
public import proofs.«01_k».proof.Proof.Gen.Mixing.Frame
public import proofs.«01_k».proof.Proof.Gen.MixingIdeal.Frame
public import proofs.«01_k».proof.Proof.Mixing
public import Idealize.ShloMosaic.Lib.Quiescent

@[expose] public section

noncomputable section

/-! # The output projection: the kernel and its reference, claim by claim -/

namespace Cert.Proof.Mixing

open Idealize.ShloMosaic Idealize.SL.Sem

/-- The reference runs, leaves its arguments alone and declares no semaphore. -/
theorem reference_frame (m : (ℓ : Loc MixedIdeal.nD MixedIdeal.τ MixedIdeal.sig) → Buf (Elt Ideal) ℓ)
    (g : Dev MixedIdeal.nD → PrngReg) :
    θ_run (MixedIdeal.defs (F := Ideal)) (onTc (τ := MixedIdeal.τ) (MixedIdeal.main (F := Ideal)))
      ⟨m, fun _ => 0, g⟩ fun r => (∀ c : Dev MixedIdeal.nD,
        r.2.mem ((c.tc : Thread MixedIdeal.nD MixedIdeal.τ).loc MixedIdeal.main_arg0)
          = m ((c.tc : Thread _ _).loc MixedIdeal.main_arg0)
        ∧ r.2.mem ((c.tc : Thread MixedIdeal.nD MixedIdeal.τ).loc MixedIdeal.main_arg1)
          = m ((c.tc : Thread _ _).loc MixedIdeal.main_arg1)
        ∧ r.2.mem ((c.tc : Thread MixedIdeal.nD MixedIdeal.τ).loc MixedIdeal.main_arg2)
          = m ((c.tc : Thread _ _).loc MixedIdeal.main_arg2)
        ∧ r.2.mem ((c.tc : Thread MixedIdeal.nD MixedIdeal.τ).loc MixedIdeal.main_arg3)
          = m ((c.tc : Thread _ _).loc MixedIdeal.main_arg3)
        ∧ r.2.mem ((c.tc : Thread MixedIdeal.nD MixedIdeal.τ).loc MixedIdeal.main_arg4)
          = m ((c.tc : Thread _ _).loc MixedIdeal.main_arg4)
        ∧ r.2.mem ((c.tc : Thread MixedIdeal.nD MixedIdeal.τ).loc MixedIdeal.main_arg5)
          = m ((c.tc : Thread _ _).loc MixedIdeal.main_arg5)
        ∧ r.2.mem ((c.tc : Thread MixedIdeal.nD MixedIdeal.τ).loc MixedIdeal.main_arg6)
          = m ((c.tc : Thread _ _).loc MixedIdeal.main_arg6)
        ∧ r.2.mem ((c.tc : Thread MixedIdeal.nD MixedIdeal.τ).loc MixedIdeal.main_arg7)
          = m ((c.tc : Thread _ _).loc MixedIdeal.main_arg7)
        ∧ r.2.mem ((c.tc : Thread MixedIdeal.nD MixedIdeal.τ).loc MixedIdeal.main_arg8)
          = m ((c.tc : Thread _ _).loc MixedIdeal.main_arg8)
        ∧ r.2.mem ((c.tc : Thread MixedIdeal.nD MixedIdeal.τ).loc MixedIdeal.main_arg9)
          = m ((c.tc : Thread _ _).loc MixedIdeal.main_arg9)
        ∧ r.2.mem ((c.tc : Thread MixedIdeal.nD MixedIdeal.τ).loc MixedIdeal.main_arg10)
          = m ((c.tc : Thread _ _).loc MixedIdeal.main_arg10)
        ∧ r.2.mem ((c.tc : Thread MixedIdeal.nD MixedIdeal.τ).loc MixedIdeal.main_arg11)
          = m ((c.tc : Thread _ _).loc MixedIdeal.main_arg11))
        ∧ r.2.sem = fun _ => 0 :=
  (θ_run _ _ _).mono (fun r h => ⟨fun c => (h c).2.2, sem_eq_zero_of_no_sems rfl r.2⟩) (MixedIdeal.Value.run m g)

/-- THE VALUE: both programs run and leave the same residual stream and the same normalised tokens. -/
theorem algebraic : algebraic_MixingIdeal_MixedIdeal := by
  intro m g m' g' _ hag
  refine ⟨fun c => (MixingIdeal.Gen.dats m 0 c).arrAt 12 MixingIdeal.cfg0.N,
    fun c => (MixingIdeal.Gen.dats m 0 c).arrAt 13 MixingIdeal.cfg0.N, ?_, ?_⟩
  · exact (θ_run _ _ _).mono (fun r h c => ⟨(h c).1, (h c).2.1, (h c).2.2.2.2⟩) (MixingIdeal.Value.run_blocks m g)
  · refine (θ_run _ _ _).mono (fun r h c => ⟨(h c).1.trans ?_, (h c).2.1.trans ?_, (h c).2.2⟩) (MixedIdeal.Value.run m' g')
    all_goals obtain ⟨e0, e1, e2, e3, e4, e5, e6, e7, e8, -⟩ := hag c
    · refine (MixedIdeal.Read.val_main_v36_eq _ _ _ _ _ _ _ _).trans (Eq.trans ?_ (MixingIdeal.Entry.stream_eq m c).symm)
      rw [e0, e1, e2, e3, e4, e5, e6, e7]
    · refine (MixedIdeal.Read.val_main_v63_eq m' c).trans (Eq.trans ?_ (MixingIdeal.Entry.tokens_eq m c).symm)
      rw [e0, e1, e2, e3, e4, e5, e6, e7, e8]

end Cert.Proof.Mixing

end
-- ==== Proof.lean ====
module

public import proofs.«01_k».proof.Proof.Layer
public import proofs.«01_k».proof.Proof.Gen.AttentionIdeal.Frame
public import proofs.«01_k».proof.Proof.AttentionClaims
public import proofs.«01_k».proof.Proof.ProjectionClaims
public import proofs.«01_k».proof.Proof.ModulationClaims
public import proofs.«01_k».proof.Proof.BoundsClaims
public import proofs.«01_k».proof.Proof.Gen.OnlineIdeal.Frame
public import proofs.«01_k».proof.Proof.OnlineClaims
public import proofs.«01_k».proof.Proof.MixingClaims

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Attention.Gen.facts,
    Cert.AttentionIdeal.Gen.facts, Cert.SoftmaxIdeal.Gen.facts, Cert.Projection.Gen.facts, Cert.ProjectionIdeal.Gen.facts,
    Cert.ProjectedIdeal.Gen.facts, Cert.Modulation.Gen.facts, Cert.ModulationIdeal.Gen.facts, Cert.ConditionedIdeal.Gen.facts,
    Cert.Bounds.Gen.facts, Cert.BoundsIdeal.Gen.facts, Cert.BoundedIdeal.Gen.facts,
    Cert.Online.Gen.facts, Cert.OnlineIdeal.Gen.facts,
    Cert.Mixing.Gen.facts, Cert.MixingIdeal.Gen.facts, Cert.MixedIdeal.Gen.facts,
    Cert.Pre_routing_tables.Gen.facts, Cert.Pre_finite_arguments.facts, Cert.Pre_finite_scores.facts,
    Layer.kernel_frame, Layer.ideal_frame, Layer.reference_frame, fun m g _ => Layer.reference_frame m g trivial,
    fun m g _ => Cert.Attention.Gen.frame m g, fun m g _ => Cert.AttentionIdeal.Gen.frame m g,
    fun m g _ => Cert.AttentionIdeal.Gen.frame m g, fun m g _ => Attention.reference_frame m g,
    fun m g _ => Attention.reference_frame m g, fun m g _ => Attention.reference_frame m g,
    fun m g _ => Cert.Projection.Gen.frame m g, fun m g _ => Cert.ProjectionIdeal.Gen.frame m g,
    fun m g _ => Projection.reference_frame m g,
    fun m g _ => Cert.Modulation.Gen.frame m g, fun m g _ => Cert.ModulationIdeal.Gen.frame m g,
    fun m g _ => Modulation.reference_frame m g,
    fun m g _ => Cert.Bounds.Gen.frame m g, fun m g _ => Cert.BoundsIdeal.Gen.frame m g,
    fun m g _ => Bounds.reference_frame m g,
    fun m g _ => Cert.Online.Gen.frame m g, fun m g _ => Cert.OnlineIdeal.Gen.frame m g,
    fun m g _ => Cert.OnlineIdeal.Gen.frame m g,
    fun m g _ => Cert.Mixing.Gen.frame m g, fun m g _ => Cert.MixingIdeal.Gen.frame m g,
    fun m g _ => Mixing.reference_frame m g,
    trivial, Layer.algebraic, trivial, Attention.algebraic, trivial, Projection.algebraic, trivial, Modulation.algebraic,
    trivial, Bounds.algebraic, trivial, Online.algebraic, trivial, Mixing.algebraic⟩

end Cert.Proof

end
